-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_v6) = v2 c
          ∧ r.2.mem ((c.tc : Thread Cert.ReferenceIdeal.nD Cert.ReferenceIdeal.τ).loc Cert.ReferenceIdeal.main_v7) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x128x1536 : Shape := ⟨3, ![16, 128, 1536]⟩
abbrev S1536x8960 : Shape := ⟨2, ![1536, 8960]⟩
abbrev S8960 : Shape := ⟨1, ![8960]⟩
abbrev S2048x1536 : Shape := ⟨2, ![2048, 1536]⟩
abbrev S1x8960 : Shape := ⟨2, ![1, 8960]⟩
abbrev S2048x8960 : Shape := ⟨2, ![2048, 8960]⟩
abbrev S16x128 : Shape := ⟨2, ![16, 128]⟩
abbrev S1536x1280 : Shape := ⟨2, ![1536, 1280]⟩
abbrev S1x1280 : Shape := ⟨2, ![1, 1280]⟩
abbrev S2048x1280 : Shape := ⟨2, ![2048, 1280]⟩
abbrev S2x256x1536 : Shape := ⟨3, ![2, 256, 1536]⟩
abbrev S2048x128 : Shape := ⟨2, ![2048, 128]⟩
abbrev S2 : Shape := ⟨1, ![2]⟩
abbrev S1 : Shape := ⟨1, ![1]⟩
abbrev S_ : Shape := ⟨0, ![]⟩
abbrev S1x256x1536 : Shape := ⟨3, ![1, 256, 1536]⟩
abbrev S256x1536 : Shape := ⟨2, ![256, 1536]⟩
abbrev S256 : Shape := ⟨1, ![256]⟩
abbrev S256x1 : Shape := ⟨2, ![256, 1]⟩
abbrev S256x128 : Shape := ⟨2, ![256, 128]⟩
abbrev S2x128 : Shape := ⟨2, ![2, 128]⟩
abbrev S2048x1 : Shape := ⟨2, ![2048, 1]⟩
abbrev S16x128x8960 : Shape := ⟨3, ![16, 128, 8960]⟩

abbrev nBuf : Space → Nat
  | .hbm => 13
  | .vmem => 14
  | .smem => 0
  | _ => 0

abbrev bufTy : (tb : Table) → Fin (tcTables nBuf tb) → BufTy
  | .hbm, ⟨0, _⟩ => ⟨S16x128x1536, .f32⟩
  | .hbm, ⟨1, _⟩ => ⟨S1536x8960, .i8⟩
  | .hbm, ⟨2, _⟩ => ⟨S8960, .f32⟩
  | .hbm, ⟨3, _⟩ => ⟨S8960, .f32⟩
  | .hbm, ⟨4, _⟩ => ⟨S2048x1536, .f32⟩
  | .hbm, ⟨5, _⟩ => ⟨S1x8960, .f32⟩
  | .hbm, ⟨6, _⟩ => ⟨S1x8960, .f32⟩
  | .hbm, ⟨7, _⟩ => ⟨S2048x8960, .f32⟩
  | .hbm, ⟨8, _⟩ => ⟨S2048x1536, .i8⟩
  | .hbm, ⟨9, _⟩ => ⟨S16x128, .f32⟩
  | .hbm, ⟨10, _⟩ => ⟨S16x128, .i32⟩
  | .hbm, ⟨11, _⟩ => ⟨S16x128x8960, .f32⟩
  | .hbm, ⟨12, _⟩ => ⟨S16x128x1536, .i8⟩
  | .local _ .vmem, ⟨0, _⟩ => ⟨S1536x1280, .i8⟩
  | .local _ .vmem, ⟨1, _⟩ => ⟨S1536x1280, .i8⟩
  | .local _ .vmem, ⟨2, _⟩ => ⟨S1x1280, .f32⟩
  | .local _ .vmem, ⟨3, _⟩ => ⟨S1x1280, .f32⟩
  | .local _ .vmem, ⟨4, _⟩ => ⟨S1x1280, .f32⟩
  | .local _ .vmem, ⟨5, _⟩ => ⟨S1x1280, .f32⟩
  | .local _ .vmem, ⟨6, _⟩ => ⟨S2048x1280, .f32⟩
  | .local _ .vmem, ⟨7, _⟩ => ⟨S2048x1280, .f32⟩
  | .local _ .vmem, ⟨8, _⟩ => ⟨S2048x1536, .i8⟩
  | .local _ .vmem, ⟨9, _⟩ => ⟨S16x128, .f32⟩
  | .local _ .vmem, ⟨10, _⟩ => ⟨S16x128, .i32⟩
  | .local _ .vmem, ⟨11, _⟩ => ⟨S2x256x1536, .f32⟩
  | .local _ .vmem, ⟨12, _⟩ => ⟨S2048x1536, .bf16⟩
  | .local _ .vmem, ⟨13, _⟩ => ⟨S2048x128, .f32⟩
  | _, _ => ⟨S16x128x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![7], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1536x1280 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x1536 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x128 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S16x128x1536 : Shape := ⟨3, ![16, 128, 1536]⟩
abbrev S1536x8960 : Shape := ⟨2, ![1536, 8960]⟩
abbrev S8960 : Shape := ⟨1, ![8960]⟩
abbrev S2048x1536 : Shape := ⟨2, ![2048, 1536]⟩
abbrev S1x8960 : Shape := ⟨2, ![1, 8960]⟩
abbrev S2048x8960 : Shape := ⟨2, ![2048, 8960]⟩
abbrev S2048x1 : Shape := ⟨2, ![2048, 1]⟩
abbrev S2048 : Shape := ⟨1, ![2048]⟩
abbrev S16x128x8960 : Shape := ⟨3, ![16, 128, 8960]⟩
abbrev S16x128 : Shape := ⟨2, ![16, 128]⟩

abbrev nBuf : Space → Nat
  | .hbm => 15
  | .vmem => 8
  | .smem => 0
  | _ => 0

abbrev bufTy : (tb : Table) → Fin (tcTables nBuf tb) → BufTy
  | .hbm, ⟨0, _⟩ => ⟨S16x128x1536, .f32⟩
  | .hbm, ⟨1, _⟩ => ⟨S1536x8960, .i8⟩
  | .hbm, ⟨2, _⟩ => ⟨S8960, .f32⟩
  | .hbm, ⟨3, _⟩ => ⟨S8960, .f32⟩
  | .hbm, ⟨4, _⟩ => ⟨S2048x1536, .f32⟩
  | .hbm, ⟨5, _⟩ => ⟨S1x8960, .f32⟩
  | .hbm, ⟨6, _⟩ => ⟨S1x8960, .f32⟩
  | .hbm, ⟨7, _⟩ => ⟨S2048x8960, .f32⟩
  | .hbm, ⟨8, _⟩ => ⟨S2048x1536, .i8⟩
  | .hbm, ⟨9, _⟩ => ⟨S2048x1, .f32⟩
  | .hbm, ⟨10, _⟩ => ⟨S2048x1, .i32⟩
  | .hbm, ⟨11, _⟩ => ⟨S16x128x8960, .f32⟩
  | .hbm, ⟨12, _⟩ => ⟨S16x128x1536, .i8⟩
  | .hbm, ⟨13, _⟩ => ⟨S16x128, .f32⟩
  | .hbm, ⟨14, _⟩ => ⟨S16x128, .i32⟩
  | .local _ .vmem, ⟨0, _⟩ => ⟨S2048x1536, .f32⟩
  | .local _ .vmem, ⟨1, _⟩ => ⟨S1536x8960, .i8⟩
  | .local _ .vmem, ⟨2, _⟩ => ⟨S1x8960, .f32⟩
  | .local _ .vmem, ⟨3, _⟩ => ⟨S1x8960, .f32⟩
  | .local _ .vmem, ⟨4, _⟩ => ⟨S2048x8960, .f32⟩
  | .local _ .vmem, ⟨5, _⟩ => ⟨S2048x1536, .i8⟩
  | .local _ .vmem, ⟨6, _⟩ => ⟨S2048x1, .f32⟩
  | .local _ .vmem, ⟨7, _⟩ => ⟨S2048x1, .i32⟩
  | _, _ => ⟨S16x128x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S2048x1536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x8960 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x8960 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x8960 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x8960 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x1536 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x1 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Val.Kit.lean ====
/- What the named run of the kernel (`Cert.KernelIdeal`) is stated over: the host lines around its one region, the buffers'
   contents when the region is entered, the blocks the input windows find there, the body's branch condition in closed form,
   the staging and scratch memrefs, the body's own semaphores, and the frame claim read off a run whose outputs are named. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffixR
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (Pipeline.UD sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg2`: it ends as launched. -/
theorem W_main_arg2 (dats : (p : Fin _) → (c : Dev nD) → Dat τ (Elt F) Unit ℕ (Pipeline.UD sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (dats : (p : Fin _) → (c : Dev nD) → Dat τ (Elt F) Unit ℕ (Pipeline.UD sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the contents at the region's entry: after a run to the library's `FramePost` the four
    argument arrays are as they were at the launch. -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(((h c).2 main_arg0 (Pipeline.mem_restRefs_of main_arg0 (by decide) (by decide))).trans (W_main_arg0 m dats c)),
      ((h c).1 0).trans (((dats 0 c).arrAt_in 0 rfl _).trans ((hA c 0).trans (V_main_arg1 m c))),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 7 = 0 :=
  (fun t => by
    have ht : t.val < 7 := Nat.lt_of_lt_of_eq t.isLt N_0
    have e0 : (grid0.coords t 0).val = t.val / 1 % 7 := Pipeline.Grid.coords_val t 0 (by decide) rfl
    simp only [cond0_0, k0_cond1, e0]
    word_cmp
   : ∀ t : Fin grid0.N, cond0_0 (grid0.coords t) ↔ t.val % 7 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1536x1280 .i8 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1280 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1280 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x1280 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x1536 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S16x128 .i32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S2x256x1536 .f32 := Memref.whole cc0_scratch0
abbrev scM0_1 : Memref sig .tc .vmem S2048x1536 .bf16 := Memref.whole cc0_scratch1
abbrev scM0_2 : Memref sig .tc .vmem S2048x128 .f32 := Memref.whole cc0_scratch2
/-- The operands left in HBM that the body copies into scratch itself, whole. -/
abbrev hbM0_0 : Memref sig .tc .hbm S2048x1536 .f32 := Memref.whole main_v0
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 2 → SemLoc sig := fun j => (![SemLoc.dma 11, SemLoc.dma 12] : Fin 2 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 11) 0 ∗ semVal ((c : Thread nD τ), SemLoc.dma 12) 0) := by
  rw [Pipeline.ownSems0_eq_of_list c osem0 [0, 1] (by decide) (by decide)]; rfl
/-- The HBM operands the body moves, as references: unscoped, no window's array (`Pipeline.restRefs`). -/
def H0 : Finset (Ref sig .tc) := {main_v0}
theorem H0_sub : H0 ⊆ Pipeline.restRefs sig spec0 := by decide
/-- The lines after the region touch none of the operands the body moves: each operation's buffers are unscoped
    TensorCore references, none of them in `H0` (`Pipeline.sub_tailRefsBut`). -/
theorem sfx_but : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  · refine Pipeline.sub_tailRefsBut Pipeline.Prefetch.none spec0 H0 op ((List.forall_iff_forall_mem.mp hostOps1_sub) op hop) (fun j => j.elim0) ?_
    simp only [hostOps1, List.mem_cons, List.mem_nil_iff, or_false] at hop
    rcases hop with rfl | rfl
    all_goals intro b hb; simp only [H0, Finset.mem_insert, Finset.mem_singleton] at hb
    all_goals rcases hb with rfl <;>
      simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_v0)) := by
  rw [BI.bigSep_eq_bigSepL_of_eq [main_v0] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r) ∗ iprop(semVal ((c : Thread nD τ), SemLoc.dma 11) 0 ∗ semVal ((c : Thread nD τ), SemLoc.dma 12) 0) ∗ iprop(hbPt0 c hbM0_0 (V m c main_v0))) := by
  rw [Pipeline.ΦD_eq, scopedRest0_eq, ownSems00_eq, hbmPts0_eq]; simp only [scM0_0, scM0_1, scM0_2, owns_whole]; try rfl

end Cert.KernelIdeal.Val

end
-- ==== Proof.Val.Slabs.lean ====
/-
  What the first grid point leaves, told slab by slab.  The kernel brings the 2048 × 1536 activations in eight slabs of
  256 rows, quantises each slab on its own, and stores the results one slab under the other.  Here: the slabs of an array,
  the whole arrays the eight results make, and the facts that read them back out of the executed body.
-/
module

public import proofs.«01_k».proof.Proof.Gen.KernelIdeal.Skeleton
public import Idealize.ShloMosaic.Lib.Pipeline.FrameBody
public import Idealize.ShloMosaic.Lib.ViewIndex
public import Idealize.ShloMosaic.Lib.VecWindow
public import Idealize.ShloMosaic.Lib.Pipeline.Value
public import Idealize.ShloMosaic.Lib.ValueIdxCore

@[expose] public section

set_option maxRecDepth 16384

noncomputable section

namespace Cert.KernelIdeal.Val

open Cert.KernelIdeal Cert.KernelIdeal.Gen
open Idealize.ShloMosaic Idealize.ShloMosaic.TcCoe
open Idealize.SL.Sem
open Idealize.ShloMosaic.ValueIdx

/-! ## Arrays stacked out of slabs -/

/-- The array of `R` rows whose rows `[H k, H k + H)` are the slab `P k`. -/
def stack {α : Type} {H C : ℕ} (R : ℕ) (hH : 0 < H) (P : ℕ → (⟨2, ![H, C]⟩ : Shape).Idx → α) :
    (⟨2, ![R, C]⟩ : Shape).Idx → α :=
  fun y => P ((y 0).val / H) (ix2 ⟨(y 0).val % H, Nat.mod_lt _ hH⟩ (y 1))

/-- Read at slab `k`'s place for its local index `x`, the stacked array is `P k x`. -/
theorem stack_emb {α : Type} {H C R : ℕ} (hH : 0 < H) (P : ℕ → (⟨2, ![H, C]⟩ : Shape).Idx → α) (k : ℕ)
    {off size : Fin 2 → ℕ} (ho : off = ![H * k, 0]) (hs : size = ![H, C])
    (inb : ∀ a : Fin 2, off a + size a ≤ (⟨2, ![R, C]⟩ : Shape).size a)
    (x : (⟨2, ![H, C]⟩ : Shape).Idx) (x' : (Rect.unit (s := ⟨2, ![R, C]⟩) off size inb).shape.Idx)
    (h0 : (x' 0).val = (x 0).val) (h1 : (x' 1).val = (x 1).val) :
    stack R hH P ((Rect.unit (s := ⟨2, ![R, C]⟩) off size inb).emb x') = P k x := by
  subst ho hs
  have hx : (x 0).val < H := (x 0).isLt
  have e0 : (((Rect.unit (s := ⟨2, ![R, C]⟩) ![H * k, 0] ![H, C] inb).emb x') 0).val = H * k + (x 0).val := by
    rw [Rect.emb_apply]; show H * k + 1 * (x' 0).val = _; omega
  have e1 : (((Rect.unit (s := ⟨2, ![R, C]⟩) ![H * k, 0] ![H, C] inb).emb x') 1).val = (x 1).val := by
    rw [Rect.emb_apply]; show 0 + 1 * (x' 1).val = _; omega
  have d : (H * k + (x 0).val) / H = k := by
    rw [Nat.mul_add_div hH, Nat.div_eq_of_lt hx, Nat.add_zero]
  have r : (H * k + (x 0).val) % H = (x 0).val := by
    rw [Nat.mul_add_mod, Nat.mod_eq_of_lt hx]
  unfold stack
  have : (ix2 ⟨(((Rect.unit (s := ⟨2, ![R, C]⟩) ![H * k, 0] ![H, C] inb).emb x') 0).val % H, Nat.mod_lt _ hH⟩
      (((Rect.unit (s := ⟨2, ![R, C]⟩) ![H * k, 0] ![H, C] inb).emb x') 1) : (⟨2, ![H, C]⟩ : Shape).Idx) = x := by
    funext a
    match a with
    | ⟨0, _⟩ => exact Fin.ext (by show _ % H = _; rw [e0, r]; rfl)
    | ⟨1, _⟩ => exact Fin.ext (by show _ = _; exact e1)
  rw [this, e0, d]

/-! ## The activations' slabs and the five whole results -/

variable {F : FTy → Type} [FloatOps F]

/-- Slab `k` of the activations: rows `256 k` to `256 k + 255`. -/
def slab (X : Vec F S2048x1536 .f32) (k : ℕ) : Vec F S1x256x1536 .f32 :=
  fun j => X (ix2 ⟨(256 * k + (j 1).val) % 2048, Nat.mod_lt _ (by decide)⟩ (j 2))

/-- The codes less their row's zero point, the whole array: what the products are taken of. -/
def qOf (X : Vec F S2048x1536 .f32) : Vec F S2048x1536 .bf16 :=
  stack 2048 (by decide : 0 < 256) fun k => (k0_pay34 (slab X k) : FVec F S256x1536 .bf16)
/-- The codes. -/
def codesOf (X : Vec F S2048x1536 .f32) : Vec F S2048x1536 .i8 :=
  stack 2048 (by decide : 0 < 256) fun k => (k0_pay35 (k0_pay33 (slab X k)) : IVec S256x1536 8)
/-- The rows' scales, each repeated along 128 lanes. -/
def xsOf (X : Vec F S2048x1536 .f32) : Vec F S2048x128 .f32 :=
  stack 2048 (by decide : 0 < 256) fun k => (k0_pay36 (k0_pay31 (slab X k)) : FVec F S256x128 .f32)
/-- The rows' scales, laid out 16 × 128. -/
def scaleOf (X : Vec F S2048x1536 .f32) : Vec F S16x128 .f32 :=
  stack 16 (by decide : 0 < 2) fun k => (k0_pay37 (k0_pay31 (slab X k)) : FVec F S2x128 .f32)
/-- The rows' zero points, laid out 16 × 128. -/
def zpOf (X : Vec F S2048x1536 .f32) : Vec F S16x128 .i32 :=
  stack 16 (by decide : 0 < 2) fun k => (k0_pay38 (k0_pay32 (slab X k)) : IVec S2x128 32)

/-- One block of the result: the product of the quantised activations with the weights' block, scaled and biased. -/
def yOf (q : Vec F S2048x1536 .bf16) (xs : Vec F S2048x128 .f32) (x0 : Vec F S1536x1280 .i8) (x1 x2 : Vec F S1x1280 .f32) :
    FVec F S2048x1280 .f32 :=
  k0_pay2 q x0 (View.ld (Val := Elt F) (e' := .f32) xs (Rect.unit ![0, 0] S2048x1.size inb_S2048x128_S2048x1_0_0)) x1 x2

/-- A result's block, from what its five loads read. -/
theorem yOf_of {v3 q : Vec F S2048x1536 .bf16} {v4 x0 : Vec F S1536x1280 .i8} {v7 : Vec F S2048x1 .f32} {v8 x1 v14 x2 : Vec F S1x1280 .f32}
    {xs : Vec F S2048x128 .f32} (h3 : v3 = q) (h4 : v4 = x0)
    (h7 : v7 = View.ld (Val := Elt F) (e' := .f32) xs (Rect.unit ![0, 0] S2048x1.size inb_S2048x128_S2048x1_0_0))
    (h8 : v8 = x1) (h14 : v14 = x2) : k0_pay2 v3 v4 v7 v8 v14 = yOf q xs x0 x1 x2 := by
  subst h3 h4 h7 h8 h14; rfl

/-! ## What a load of one of the two landing slots reads -/

/-- A load of one rectangle does not see what is written through a re-indexing of another, the two disjoint. -/
theorem readAt_miss {sig : RefSig} {κ : Kind} {sp : Space} {s s' : Shape} {e : EltTy} {Val : EltTy → Type} (v : View sig κ sp s e)
    (r r' : Rect s) (h : s'.numel = r'.shape.numel) (hd : Disjoint r.set r'.set) (f : v.ty.Contents Val) (w : s'.Idx → Val e)
    (M : Finset s'.Idx) :
    v.readAt Val r.toLoadRect (((v.slice r').reshape s' h).write Val f w M) = v.readAt Val r.toLoadRect f := by
  refine View.readAt_congr fun i hi => ?_
  refine View.write_of_not_mem _ _ _ fun hm => ?_
  have h' : i ∈ (v.slice r').set := View.set_reshape_subset (v.slice r') h (Finset.Subset.refl _) (View.setOn_subset_set _ _ hm)
  rw [View.set_slice] at h'
  exact Finset.disjoint_left.mp (View.disjoint_setOn v hd) hi h'

section Slots

variable (M : Memref sig .tc .vmem S2x256x1536 .f32)

/-- A load of the slot just written through its squeezed view reads the payload. -/
theorem readAt_slot_hit {off : Fin 3 → ℕ} (inb : ∀ a, off a + S1x256x1536.size a ≤ S2x256x1536.size a)
    (hs : (⟨S1x256x1536.rank, S1x256x1536.size⟩ : Shape).Squeezes S256x1536)
    (hst : ∀ a, (Rect.unit (s := S2x256x1536) off S1x256x1536.size inb).stride a = 1)
    (f : M.view.ty.Contents (Elt F)) (w : S256x1536.Idx → Elt F .f32) (X : Vec F S2048x1536 .f32) (k : ℕ)
    (hw : ∀ j : S1x256x1536.Idx, w (ix2 (j 1) (j 2)) = slab X k j) :
    View.readAt (Elt F) M.view (Rect.unit (s := S2x256x1536) off S1x256x1536.size inb).toLoadRect
      (View.write (Elt F) ((M.slice (Rect.unit (s := S2x256x1536) off S1x256x1536.size inb) hst).squeeze S256x1536 hs).view f w Finset.univ)
      = slab X k := by
  funext j
  have hj : (Shape.reshapeEquiv hs.numel_eq (ix2 (j 1) (j 2) : S256x1536.Idx) : S1x256x1536.Idx) = j := by
    refine (shapeCast_dropUnit_apply (α := S1x256x1536.Idx) ![256, 1536] id shapeCasts_S1x256x1536_S256x1536 (ix2 (j 1) (j 2))).trans ?_
    have h0 : (j 0).val < 1 := (j 0).isLt
    funext a
    match a with
    | ⟨0, _⟩ => exact Fin.ext (by show 0 = (j 0).val; omega)
    | ⟨1, _⟩ => rfl
    | ⟨2, _⟩ => rfl
  have := View.read_write_reshape (M.view.slice (Rect.unit (s := S2x256x1536) off S1x256x1536.size inb)) hs.numel_eq f w (ix2 (j 1) (j 2))
  rw [hj] at this
  exact this.trans (hw j)

/-- A load of one slot does not see what is written to the other. -/
theorem readAt_slot_miss {off off' : Fin 3 → ℕ} (inb : ∀ a, off a + S1x256x1536.size a ≤ S2x256x1536.size a)
    (inb' : ∀ a, off' a + S1x256x1536.size a ≤ S2x256x1536.size a) (hne : off 0 ≠ off' 0)
    (hs : (⟨S1x256x1536.rank, S1x256x1536.size⟩ : Shape).Squeezes S256x1536)
    (hst : ∀ a, (Rect.unit (s := S2x256x1536) off' S1x256x1536.size inb').stride a = 1)
    (f : M.view.ty.Contents (Elt F)) (w : S256x1536.Idx → Elt F .f32) :
    View.readAt (Elt F) M.view (Rect.unit (s := S2x256x1536) off S1x256x1536.size inb).toLoadRect
      (View.write (Elt F) ((M.slice (Rect.unit (s := S2x256x1536) off' S1x256x1536.size inb') hst).squeeze S256x1536 hs).view f w Finset.univ)
      = View.readAt (Elt F) M.view (Rect.unit (s := S2x256x1536) off S1x256x1536.size inb).toLoadRect f := by
  refine readAt_miss M.view _ _ hs.numel_eq ?_ f w _
  refine LoadRect.disjoint_of_separated (Rect.unit (s := S2x256x1536) off S1x256x1536.size inb).toLoadRect
    (Rect.unit (s := S2x256x1536) off' S1x256x1536.size inb').toLoadRect 0 ?_
  rcases Nat.lt_or_gt_of_ne hne with hlt | hgt
  · exact .inl (.inr (by show off 0 + 1 * (1 - 1) < off' 0; omega))
  · exact .inr (.inr (by show off' 0 + 1 * (1 - 1) < off 0; omega))

end Slots

/-- The rows a copy lands: rows `256 k` onwards of the activations, read at a slab's index, are the slab. -/
theorem dma_slab (k : ℕ) (hk : k < 8) {off : Fin 2 → ℕ} (ho : off = ![256 * k, 0])
    (inb : ∀ a, off a + S256x1536.size a ≤ S2048x1536.size a)
    (hst : ∀ a, (Rect.unit (s := S2048x1536) off S256x1536.size inb).stride a = 1)
    (X : (Memref.whole main_v0).view.ty.Contents (Elt F)) (j : S1x256x1536.Idx) :
    View.read (Elt F) ((Memref.whole main_v0).slice (Rect.unit (s := S2048x1536) off S256x1536.size inb) hst).view X
      (ix2 (j 1) (j 2) : S256x1536.Idx) = slab (F := F) X k j := by
  subst ho
  have h1 : (j 1).val < 256 := (j 1).isLt
  show X ((Rect.unit (s := S2048x1536) ![256 * k, 0] S256x1536.size inb).emb (ix2 (j 1) (j 2) : S256x1536.Idx)) = X _
  congr 1
  funext a
  refine Fin.ext ?_
  rw [Rect.emb_apply]
  match a with
  | ⟨0, _⟩ => show 256 * k + 1 * (j 1).val = (256 * k + (j 1).val) % 2048; omega
  | ⟨1, _⟩ => show 0 + 1 * (j 2).val = (j 2).val; omega

/-! ## Each slab's payload is its part of the whole array -/

/-- The codes of slab `k` are the whole array's at the slab's place. -/
theorem codes_piece (X : Vec F S2048x1536 .f32) (k : ℕ) (v : Vec F S1x256x1536 .f32) (hv : v = slab X k) {off : Fin 2 → ℕ}
    (ho : off = ![256 * k, 0]) (inb : ∀ a, off a + S256x1536.size a ≤ S2048x1536.size a) (x : S256x1536.Idx) :
    k0_pay35 (k0_pay33 v) x = codesOf X ((Rect.unit (s := S2048x1536) off S256x1536.size inb).emb x) := by
  subst hv
  exact (stack_emb (by decide) (fun k => k0_pay35 (k0_pay33 (slab X k))) k ho rfl inb x x rfl rfl).symm

/-- The centred codes of slab `k` are the whole array's at the slab's place. -/
theorem q_piece (X : Vec F S2048x1536 .f32) (k : ℕ) (v : Vec F S1x256x1536 .f32) (hv : v = slab X k) {off : Fin 2 → ℕ}
    (ho : off = ![256 * k, 0]) (inb : ∀ a, off a + S256x1536.size a ≤ S2048x1536.size a) (x : S256x1536.Idx) :
    k0_pay34 v x = qOf X ((Rect.unit (s := S2048x1536) off S256x1536.size inb).emb x) := by
  subst hv
  exact (stack_emb (by decide) (fun k => k0_pay34 (slab X k)) k ho rfl inb x x rfl rfl).symm

/-- The repeated scales of slab `k` are the whole array's at the slab's place. -/
theorem xs_piece (X : Vec F S2048x1536 .f32) (k : ℕ) (v : Vec F S1x256x1536 .f32) (hv : v = slab X k) {off : Fin 2 → ℕ}
    (ho : off = ![256 * k, 0]) (inb : ∀ a, off a + S256x128.size a ≤ S2048x128.size a) (x : S256x128.Idx) :
    k0_pay36 (k0_pay31 v) x = xsOf X ((Rect.unit (s := S2048x128) off S256x128.size inb).emb x) := by
  subst hv
  exact (stack_emb (by decide) (fun k => k0_pay36 (k0_pay31 (slab X k))) k ho rfl inb x x rfl rfl).symm

/-- The scales of slab `k` are the whole array's at the slab's place. -/
theorem scale_piece (X : Vec F S2048x1536 .f32) (k : ℕ) (v : Vec F S1x256x1536 .f32) (hv : v = slab X k) {off : Fin 2 → ℕ}
    (ho : off = ![2 * k, 0]) (inb : ∀ a, off a + S2x128.size a ≤ S16x128.size a) (x : S2x128.Idx) :
    k0_pay37 (k0_pay31 v) x = scaleOf X ((Rect.unit (s := S16x128) off S2x128.size inb).emb x) := by
  subst hv
  exact (stack_emb (by decide) (fun k => k0_pay37 (k0_pay31 (slab X k))) k ho rfl inb x x rfl rfl).symm

/-- The zero points of slab `k` are the whole array's at the slab's place. -/
theorem zp_piece (X : Vec F S2048x1536 .f32) (k : ℕ) (v : Vec F S1x256x1536 .f32) (hv : v = slab X k) {off : Fin 2 → ℕ}
    (ho : off = ![2 * k, 0]) (inb : ∀ a, off a + S2x128.size a ≤ S16x128.size a) (x : S2x128.Idx) :
    k0_pay38 (k0_pay32 v) x = zpOf X ((Rect.unit (s := S16x128) off S2x128.size inb).emb x) := by
  subst hv
  exact (stack_emb (by decide) (fun k => k0_pay38 (k0_pay32 (slab X k))) k ho rfl inb x x rfl rfl).symm

end Cert.KernelIdeal.Val

end
-- ==== Proof.Val.RunA.lean ====
/-
  The kernel body at the first grid point, run with what it leaves NAMED: the block of the result, the codes, the scales
  and the zero points in their windows' buffers, the centred codes and the repeated scales in the two scratch buffers the
  later points read.
-/
module

public import proofs.«01_k».proof.Proof.Val.Kit
public import proofs.«01_k».proof.Proof.Val.Slabs

@[expose] public section

-- membership in a rectangle of production extents (`View.cover_of_tiled`): the elaborator's structural look
-- recurses once per coordinate of the long axes
set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: checking it walks past the default budget)
set_option maxHeartbeats 1076000 in set_option sl_exec.dmaWindow true in set_option sl_exec.dmaWindowSet true in
/-- The body at the first grid point (its one branch taken).  On whole buffers, the inputs' at `x0`, `x1`, `x2` and the
    activations in HBM at `fh0`, the outputs' and the scratch at anything: the body runs to a state that holds the inputs as
    they were, the result's block at `yOf` of the quantised activations, the codes', scales' and zero points' buffers at
    `codesOf`, `scaleOf`, `zpOf` of the activations, and the two carried scratch buffers at `qOf` and `xsOf`.  Each slab's
    load is the slab (`e0` to `e7`), so each store is its slab's part of the whole array, and the eight stores cover it. -/
theorem kernelRun0_A (c : Dev nD) (i : grid0.Coords) (arg2 : Memref sig .tc .vmem S1536x1280 .i8) (harg2 : arg2.IsWhole) (arg3 : Memref sig .tc .vmem S1x1280 .f32) (harg3 : arg3.IsWhole) (arg4 : Memref sig .tc .vmem S1x1280 .f32) (harg4 : arg4.IsWhole) (arg5 : Memref sig .tc .vmem S2048x1280 .f32) (harg5 : arg5.IsWhole) (arg6 : Memref sig .tc .vmem S2048x1536 .i8) (harg6 : arg6.IsWhole) (arg7 : Memref sig .tc .vmem S16x128 .f32) (harg7 : arg7.IsWhole) (arg8 : Memref sig .tc .vmem S16x128 .i32) (harg8 : arg8.IsWhole) (arg9 : Memref sig .tc .vmem S2x256x1536 .f32) (harg9 : arg9.IsWhole) (arg10 : Memref sig .tc .vmem S2048x1536 .bf16) (harg10 : arg10.IsWhole) (arg11 : Memref sig .tc .vmem S2048x128 .f32) (harg11 : arg11.IsWhole) (hc0 : cond0_0 i)
    (x0 : Vec F S1536x1280 .i8) (x1 : Vec F S1x1280 .f32) (x2 : Vec F S1x1280 .f32) (fh0 : HbBuf0 (F := F) c hbM0_0) :
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ semVal ((c : Thread nD τ), SemLoc.dma 11) 0 ∗ semVal ((c : Thread nD τ), SemLoc.dma 12) 0 ∗ hbPt0 c hbM0_0 fh0 ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare (yOf (qOf fh0) (xsOf fh0) x0 x1 x2) ∗ owns (c : Thread nD τ) arg6 fullShare (codesOf fh0) ∗ owns (c : Thread nD τ) arg7 fullShare (scaleOf fh0) ∗ owns (c : Thread nD τ) arg8 fullShare (zpOf fh0) ∗ (∃ d, owns (c : Thread nD τ) arg9 fullShare d) ∗ owns (c : Thread nD τ) arg10 fullShare (qOf fh0) ∗ owns (c : Thread nD τ) arg11 fullShare (xsOf fh0) ∗ semVal ((c : Thread nD τ), SemLoc.dma 11) 0 ∗ semVal ((c : Thread nD τ), SemLoc.dma 12) 0 ∗ hbPt0 c hbM0_0 fh0 ∗ (∃ W', owes (c : Thread nD τ) 0 W')) -∗ K ⟨⟩))
          ⊢ wp frame (wpE (defs₀ (F := F)) Variants.none c none) Set.univ (cc0_hybrid_fc i (Memref.whole main_v0) (Memref.isWhole_whole _) arg2 harg2 arg3 harg3 arg4 harg4 arg5 harg5 arg6 harg6 arg7 harg7 arg8 harg8 arg9 harg9 arg10 harg10 arg11 harg11 cc0_scratch3) K := by
    intro W K
    simp only [cc0_hybrid_fc_eq_skeleton]; unfold cc0_hybrid_fc_skel
    simp only [k0_part14_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%ds0, %fs0, -, HS0⟩, ⟨%ds1, %fs1, -, HS1⟩, ⟨%ds2, %fs2, -, HS2⟩, Hq0, Hq1, Hh0, HW, Hk⟩
    obtain rfl := harg2.eq_unread hf0; obtain rfl := harg3.eq_unread hf1; obtain rfl := harg4.eq_unread hf2
    sl_exec (disch := first | sl_exact hc0)
    sl_step
    have e0 : kernelRun0_A.sl.v34 c arg9 fh0 fs0 = slab fh0 0 := (readAt_slot_miss arg9 _ _ (by decide) _ _ _ _).trans (readAt_slot_hit arg9 _ _ _ _ _ fh0 0 (fun j => dma_slab 0 (by decide) rfl _ _ fh0 j))
    have e1 : kernelRun0_A.sl.v95 c arg9 fh0 fs0 = slab fh0 1 := (readAt_slot_miss arg9 _ _ (by decide) _ _ _ _).trans (readAt_slot_hit arg9 _ _ _ _ _ fh0 1 (fun j => dma_slab 1 (by decide) rfl _ _ fh0 j))
    have e2 : kernelRun0_A.sl.v156 c arg9 fh0 fs0 = slab fh0 2 := (readAt_slot_miss arg9 _ _ (by decide) _ _ _ _).trans (readAt_slot_hit arg9 _ _ _ _ _ fh0 2 (fun j => dma_slab 2 (by decide) rfl _ _ fh0 j))
    have e3 : kernelRun0_A.sl.v217 c arg9 fh0 fs0 = slab fh0 3 := (readAt_slot_miss arg9 _ _ (by decide) _ _ _ _).trans (readAt_slot_hit arg9 _ _ _ _ _ fh0 3 (fun j => dma_slab 3 (by decide) rfl _ _ fh0 j))
    have e4 : kernelRun0_A.sl.v278 c arg9 fh0 fs0 = slab fh0 4 := (readAt_slot_miss arg9 _ _ (by decide) _ _ _ _).trans (readAt_slot_hit arg9 _ _ _ _ _ fh0 4 (fun j => dma_slab 4 (by decide) rfl _ _ fh0 j))
    have e5 : kernelRun0_A.sl.v339 c arg9 fh0 fs0 = slab fh0 5 := (readAt_slot_miss arg9 _ _ (by decide) _ _ _ _).trans (readAt_slot_hit arg9 _ _ _ _ _ fh0 5 (fun j => dma_slab 5 (by decide) rfl _ _ fh0 j))
    have e6 : kernelRun0_A.sl.v400 c arg9 fh0 fs0 = slab fh0 6 := (readAt_slot_miss arg9 _ _ (by decide) _ _ _ _).trans (readAt_slot_hit arg9 _ _ _ _ _ fh0 6 (fun j => dma_slab 6 (by decide) rfl _ _ fh0 j))
    have e7 : kernelRun0_A.sl.v456 c arg9 fh0 fs0 = slab fh0 7 := readAt_slot_hit arg9 _ _ _ _ _ fh0 7 (fun j => dma_slab 7 (by decide) rfl _ _ fh0 j)
    have hq : ∀ f y, View.read (Elt F) arg10.view (arg10.view.writes (Elt F) f (kernelRun0_A.sl.HS1_8 c arg9 fh0 fs0)) y = qOf fh0 y :=
      fun f y => View.read_writes_apply_of_pieces _ _ (qOf fh0) _
        (List.forall_mem_cons.mpr ⟨fun x => q_piece fh0 7 _ e7 rfl (by decide) x, List.forall_mem_cons.mpr ⟨fun x => q_piece fh0 6 _ e6 rfl (by decide) x, List.forall_mem_cons.mpr ⟨fun x => q_piece fh0 5 _ e5 rfl (by decide) x, List.forall_mem_cons.mpr ⟨fun x => q_piece fh0 4 _ e4 rfl (by decide) x, List.forall_mem_cons.mpr ⟨fun x => q_piece fh0 3 _ e3 rfl (by decide) x, List.forall_mem_cons.mpr ⟨fun x => q_piece fh0 2 _ e2 rfl (by decide) x, List.forall_mem_cons.mpr ⟨fun x => q_piece fh0 1 _ e1 rfl (by decide) x, List.forall_mem_cons.mpr ⟨fun x => q_piece fh0 0 _ e0 rfl (by decide) x, List.forall_mem_nil _⟩⟩⟩⟩⟩⟩⟩⟩)
        y (View.cover_of_tiled (s := S2048x1536) _ ![256, 1536] rfl y)
    have hxs : ∀ f y, View.read (Elt F) arg11.view (arg11.view.writes (Elt F) f (kernelRun0_A.sl.HS2_8 c arg9 fh0 fs0)) y = xsOf fh0 y :=
      fun f y => View.read_writes_apply_of_pieces _ _ (xsOf fh0) _
        (List.forall_mem_cons.mpr ⟨fun x => xs_piece fh0 7 _ e7 rfl (by decide) x, List.forall_mem_cons.mpr ⟨fun x => xs_piece fh0 6 _ e6 rfl (by decide) x, List.forall_mem_cons.mpr ⟨fun x => xs_piece fh0 5 _ e5 rfl (by decide) x, List.forall_mem_cons.mpr ⟨fun x => xs_piece fh0 4 _ e4 rfl (by decide) x, List.forall_mem_cons.mpr ⟨fun x => xs_piece fh0 3 _ e3 rfl (by decide) x, List.forall_mem_cons.mpr ⟨fun x => xs_piece fh0 2 _ e2 rfl (by decide) x, List.forall_mem_cons.mpr ⟨fun x => xs_piece fh0 1 _ e1 rfl (by decide) x, List.forall_mem_cons.mpr ⟨fun x => xs_piece fh0 0 _ e0 rfl (by decide) x, List.forall_mem_nil _⟩⟩⟩⟩⟩⟩⟩⟩)
        y (View.cover_of_tiled (s := S2048x128) _ ![256, 128] rfl y)
    have ev3 : kernelRun0_A.sl.v3 c arg9 arg10 fh0 fs0 = qOf fh0 := by
      funext y
      refine (hq arg10.view.junk _).trans (congrArg (qOf fh0) ?_)
      funext a
      exact Fin.ext (by
        match a with
        | ⟨0, _⟩ => exact (Nat.zero_add _).trans (Nat.one_mul _)
        | ⟨1, _⟩ => exact (Nat.zero_add _).trans (Nat.one_mul _))
    have ev7 : kernelRun0_A.sl.v7 c arg9 arg11 fh0 fs0 = View.ld (Val := Elt F) (e' := .f32) (xsOf fh0) (Rect.unit ![0, 0] S2048x1.size inb_S2048x128_S2048x1_0_0) :=
      funext fun y => hxs arg11.view.junk _
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro
      refine (View.read_writes_full _ _ _ _ _).trans ?_
      exact yOf_of ev3 ((View.readAt_full _ _ _).trans hf0) ev7 ((View.readAt_full _ _ _).trans hf1) ((View.readAt_full _ _ _).trans hf2)
    isplitl [H4]
    · iexists _; isplitr; swap; · iexact H4
      ipureintro; funext y
      exact View.read_writes_apply_of_pieces _ _ (codesOf fh0) _
        (List.forall_mem_cons.mpr ⟨fun x => codes_piece fh0 7 _ e7 rfl (by decide) x, List.forall_mem_cons.mpr ⟨fun x => codes_piece fh0 6 _ e6 rfl (by decide) x, List.forall_mem_cons.mpr ⟨fun x => codes_piece fh0 5 _ e5 rfl (by decide) x, List.forall_mem_cons.mpr ⟨fun x => codes_piece fh0 4 _ e4 rfl (by decide) x, List.forall_mem_cons.mpr ⟨fun x => codes_piece fh0 3 _ e3 rfl (by decide) x, List.forall_mem_cons.mpr ⟨fun x => codes_piece fh0 2 _ e2 rfl (by decide) x, List.forall_mem_cons.mpr ⟨fun x => codes_piece fh0 1 _ e1 rfl (by decide) x, List.forall_mem_cons.mpr ⟨fun x => codes_piece fh0 0 _ e0 rfl (by decide) x, List.forall_mem_nil _⟩⟩⟩⟩⟩⟩⟩⟩)
        y (View.cover_of_tiled (s := S2048x1536) _ ![256, 1536] rfl y)
    isplitl [H5]
    · iexists _; isplitr; swap; · iexact H5
      ipureintro; funext y
      exact View.read_writes_apply_of_pieces _ _ (scaleOf fh0) _
        (List.forall_mem_cons.mpr ⟨fun x => scale_piece fh0 7 _ e7 rfl (by decide) x, List.forall_mem_cons.mpr ⟨fun x => scale_piece fh0 6 _ e6 rfl (by decide) x, List.forall_mem_cons.mpr ⟨fun x => scale_piece fh0 5 _ e5 rfl (by decide) x, List.forall_mem_cons.mpr ⟨fun x => scale_piece fh0 4 _ e4 rfl (by decide) x, List.forall_mem_cons.mpr ⟨fun x => scale_piece fh0 3 _ e3 rfl (by decide) x, List.forall_mem_cons.mpr ⟨fun x => scale_piece fh0 2 _ e2 rfl (by decide) x, List.forall_mem_cons.mpr ⟨fun x => scale_piece fh0 1 _ e1 rfl (by decide) x, List.forall_mem_cons.mpr ⟨fun x => scale_piece fh0 0 _ e0 rfl (by decide) x, List.forall_mem_nil _⟩⟩⟩⟩⟩⟩⟩⟩)
        y (View.cover_of_tiled (s := S16x128) _ ![2, 128] rfl y)
    isplitl [H6]
    · iexists _; isplitr; swap; · iexact H6
      ipureintro; funext y
      exact View.read_writes_apply_of_pieces _ _ (zpOf fh0) _
        (List.forall_mem_cons.mpr ⟨fun x => zp_piece fh0 7 _ e7 rfl (by decide) x, List.forall_mem_cons.mpr ⟨fun x => zp_piece fh0 6 _ e6 rfl (by decide) x, List.forall_mem_cons.mpr ⟨fun x => zp_piece fh0 5 _ e5 rfl (by decide) x, List.forall_mem_cons.mpr ⟨fun x => zp_piece fh0 4 _ e4 rfl (by decide) x, List.forall_mem_cons.mpr ⟨fun x => zp_piece fh0 3 _ e3 rfl (by decide) x, List.forall_mem_cons.mpr ⟨fun x => zp_piece fh0 2 _ e2 rfl (by decide) x, List.forall_mem_cons.mpr ⟨fun x => zp_piece fh0 1 _ e1 rfl (by decide) x, List.forall_mem_cons.mpr ⟨fun x => zp_piece fh0 0 _ e0 rfl (by decide) x, List.forall_mem_nil _⟩⟩⟩⟩⟩⟩⟩⟩)
        y (View.cover_of_tiled (s := S16x128) _ ![2, 128] rfl y)
    isplitl [HS0]
    · iexists _, _; isplitr; swap; · iexact HS0
      ipureintro; rfl
    isplitl [HS1]
    · iexists _; isplitr; swap; · iexact HS1
      ipureintro; exact funext fun y => hq fs1 y
    isplitl [HS2]
    · iexists _; isplitr; swap; · iexact HS2
      ipureintro; exact funext fun y => hxs fs2 y
    isplitl [Hq0]; · iexact Hq0
    isplitl [Hq1]; · iexact Hq1
    isplitl [Hh0]; · iexact Hh0
    iexists _; iexact HW

end Cert.KernelIdeal.Val

end
-- ==== Proof.Val.RunB.lean ====
/-
  The kernel body at a later grid point, run with what it leaves NAMED: the block of the result, from the centred codes and
  the repeated scales the first point left in scratch; everything else is handed back as it was found.
-/
module

public import proofs.«01_k».proof.Proof.Val.RunA

@[expose] public section

-- membership in a rectangle of production extents (`View.cover_of_tiled`): the elaborator's structural look
-- recurses once per coordinate of the long axes
set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: checking it walks past the default budget)
set_option maxHeartbeats 1000000 in
/-- The body at a later grid point (its one branch not taken).  On whole buffers, the inputs' at `x0`, `x1`, `x2`, the
    three outputs written once at `x4`, `x5`, `x6` and the two carried scratch buffers at `q` and `xs`: the body leaves the
    result's block at `yOf q xs x0 x1 x2` and all the others as they were. -/
theorem kernelRun0_B (c : Dev nD) (i : grid0.Coords) (arg2 : Memref sig .tc .vmem S1536x1280 .i8) (harg2 : arg2.IsWhole) (arg3 : Memref sig .tc .vmem S1x1280 .f32) (harg3 : arg3.IsWhole) (arg4 : Memref sig .tc .vmem S1x1280 .f32) (harg4 : arg4.IsWhole) (arg5 : Memref sig .tc .vmem S2048x1280 .f32) (harg5 : arg5.IsWhole) (arg6 : Memref sig .tc .vmem S2048x1536 .i8) (harg6 : arg6.IsWhole) (arg7 : Memref sig .tc .vmem S16x128 .f32) (harg7 : arg7.IsWhole) (arg8 : Memref sig .tc .vmem S16x128 .i32) (harg8 : arg8.IsWhole) (arg9 : Memref sig .tc .vmem S2x256x1536 .f32) (harg9 : arg9.IsWhole) (arg10 : Memref sig .tc .vmem S2048x1536 .bf16) (harg10 : arg10.IsWhole) (arg11 : Memref sig .tc .vmem S2048x128 .f32) (harg11 : arg11.IsWhole) (hc0 : ¬cond0_0 i)
    (x0 : Vec F S1536x1280 .i8) (x1 : Vec F S1x1280 .f32) (x2 : Vec F S1x1280 .f32) (x4 : Vec F S2048x1536 .i8) (x5 : Vec F S16x128 .f32) (x6 : Vec F S16x128 .i32) (q : Vec F S2048x1536 .bf16) (xs : Vec F S2048x128 .f32) (fh0 : HbBuf0 (F := F) c hbM0_0) :
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare q ∗ owns (c : Thread nD τ) arg11 fullShare xs ∗ semVal ((c : Thread nD τ), SemLoc.dma 11) 0 ∗ semVal ((c : Thread nD τ), SemLoc.dma 12) 0 ∗ hbPt0 c hbM0_0 fh0 ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare (yOf q xs x0 x1 x2) ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare q ∗ owns (c : Thread nD τ) arg11 fullShare xs ∗ semVal ((c : Thread nD τ), SemLoc.dma 11) 0 ∗ semVal ((c : Thread nD τ), SemLoc.dma 12) 0 ∗ hbPt0 c hbM0_0 fh0 ∗ (∃ W', owes (c : Thread nD τ) 0 W')) -∗ K ⟨⟩))
          ⊢ wp frame (wpE (defs₀ (F := F)) Variants.none c none) Set.univ (cc0_hybrid_fc i (Memref.whole main_v0) (Memref.isWhole_whole _) arg2 harg2 arg3 harg3 arg4 harg4 arg5 harg5 arg6 harg6 arg7 harg7 arg8 harg8 arg9 harg9 arg10 harg10 arg11 harg11 cc0_scratch3) K := by
    intro W K
    simp only [cc0_hybrid_fc_eq_skeleton]; unfold cc0_hybrid_fc_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%f6, %hf6, H6⟩, ⟨%ds0, %fs0, -, HS0⟩, ⟨%fs1, %hfs1, HS1⟩, ⟨%fs2, %hfs2, HS2⟩, Hq0, Hq1, Hh0, HW, Hk⟩
    obtain rfl := harg2.eq_unread hf0; obtain rfl := harg3.eq_unread hf1; obtain rfl := harg4.eq_unread hf2; obtain rfl := harg10.eq_unread hfs1; obtain rfl := harg11.eq_unread hfs2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro; refine (View.read_writes_full _ _ _ _ _).trans ?_
      exact yOf_of ((View.readAt_full _ _ _).trans hfs1) ((View.readAt_full _ _ _).trans hf0)
        (congrArg (fun X : Vec F S2048x128 .f32 => View.ld (Val := Elt F) (e' := .f32) X (Rect.unit ![0, 0] S2048x1.size inb_S2048x128_S2048x1_0_0)) hfs2)
        ((View.readAt_full _ _ _).trans hf1) ((View.readAt_full _ _ _).trans hf2)
    isplitl [H4]
    · iexists _; isplitr; swap; · iexact H4
      ipureintro; exact hf4
    isplitl [H5]
    · iexists _; isplitr; swap; · iexact H5
      ipureintro; exact hf5
    isplitl [H6]
    · iexists _; isplitr; swap; · iexact H6
      ipureintro; exact hf6
    isplitl [HS0]
    · iexists _, _; isplitr; swap; · iexact HS0
      ipureintro; rfl
    isplitl [HS1]
    · iexists _; isplitr; swap; · iexact HS1
      ipureintro; exact harg10.read_unread _
    isplitl [HS2]
    · iexists _; isplitr; swap; · iexact HS2
      ipureintro; exact harg11.read_unread _
    isplitl [Hq0]; · iexact Hq0
    isplitl [Hq1]; · iexact Hq1
    isplitl [Hh0]; · iexact Hh0
    iexists _; iexact HW

end Cert.KernelIdeal.Val

end
-- ==== Proof.Val.Frame.lean ====
/- THE KERNEL'S RUN WITH ITS OUTPUTS NAMED.  At every grid point the body leaves the result's block at `yOf`, and the codes,
   the scales and the zero points at `codesOf`, `scaleOf`, `zpOf` of the activations — written at the first point, kept
   unchanged afterwards.  Between the points the two scratch buffers hold the shifted codes (`qOf`) and the row scales
   (`xsOf`), which the first point computes and the later points read.  From the two triples of the body (`RunA`, `RunB`)
   follow the body's obligation, the run of the whole program and the frame claim. -/
module

public import proofs.«01_k».proof.Proof.Val.RunB
public import Idealize.ShloMosaic.Lib.Pipeline.TableIdle
public import Idealize.ShloMosaic.Lib.Claim

@[expose] public section

-- membership in a rectangle of production extents (`View.cover_of_tiled`): the elaborator's structural look
-- recurses once per coordinate of the long axes
set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## The pipeline's proof data -/

/-- The activations, one row per token, as the region finds them in their buffer. -/
abbrev X (c : Dev nD) : Vec F S2048x1536 .f32 := V m c main_v0

/-- What the body finds besides its windows after the first point: the copy buffer at any contents, the shifted codes and
    the row scales in their scratch buffers, the generator register, the two semaphores at zero, the activations. -/
def PhiK (c : Dev nD) : sProp 𝕄 :=
  iprop(iprop((∃ d, owns (c : Thread nD τ) scM0_0 fullShare d) ∗ owns (c : Thread nD τ) scM0_1 fullShare (qOf (X m c)) ∗ owns (c : Thread nD τ) scM0_2 fullShare (xsOf (X m c))) ∗ (∃ r, prngReg c r) ∗ iprop(semVal ((c : Thread nD τ), SemLoc.dma 11) 0 ∗ semVal ((c : Thread nD τ), SemLoc.dma 12) 0) ∗ iprop(hbPt0 c hbM0_0 (V m c main_v0)))

/-- The invariant before point `t`: at the first point the scratch holds anything, later the named contents. -/
def Phi (c : Dev nD) (t : Fin (cfg0.N + 1)) : sProp 𝕄 :=
  if t.val = 0 then Pipeline.ΦD osem0 spec0 H0 (V m) c else PhiK m c

/-- The proof data of the one pipeline on core `c`: the arrays as the region finds them; after the body at point `t` each
    input's buffer at its block and the outputs at their named contents; the invariant `Phi`; nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => yOf (qOf (X m c)) (xsOf (X m c)) (iblk m c 0 t) (iblk m c 1 t) (iblk m c 2 t)
    | ⟨4, _⟩ => codesOf (X m c)
    | ⟨5, _⟩ => scaleOf (X m c)
    | ⟨6, _⟩ => zpOf (X m c)
  Φ t := Phi m c t
  q _ := fullShare
  owed _ := 0

/-- The proof data's arrays are the contents at the region's entry. -/
theorem A_eq (c : Dev nD) (w : Fin cfg0.W) : (dats m 0 c).A w = V m c (Pipeline.arrRef spec0 w) := by
  dsimp only [dats]

/-! What the body leaves, window by window. -/

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = yOf (qOf (X m c)) (xsOf (X m c)) (iblk m c 0 t) (iblk m c 1 t) (iblk m c 2 t) := by dsimp only [dats]
theorem after0_4 (c : Dev nD) (t : Fin cfg0.N) : (dats m 0 c).after 4 t = codesOf (X m c) := by dsimp only [dats]
theorem after0_5 (c : Dev nD) (t : Fin cfg0.N) : (dats m 0 c).after 5 t = scaleOf (X m c) := by dsimp only [dats]
theorem after0_6 (c : Dev nD) (t : Fin cfg0.N) : (dats m 0 c).after 6 t = zpOf (X m c) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! The codes, the scales and the zero points are stored at the first point only and written back after the last: their
    buffers are not fresh at a later point (`fresh0_W`), and what the first point left is still there (`before0_W`). -/

theorem fresh0_4 : ∀ t : Fin cfg0.N, t.val ≠ 0 → cfg0.fresh 4 t.val = false :=
  (by decide +kernel : ∀ t : Fin grid0.N, t.val ≠ 0 → cfg0.fresh 4 t.val = false)
theorem fresh0_5 : ∀ t : Fin cfg0.N, t.val ≠ 0 → cfg0.fresh 5 t.val = false :=
  (by decide +kernel : ∀ t : Fin grid0.N, t.val ≠ 0 → cfg0.fresh 5 t.val = false)
theorem fresh0_6 : ∀ t : Fin cfg0.N, t.val ≠ 0 → cfg0.fresh 6 t.val = false :=
  (by decide +kernel : ∀ t : Fin grid0.N, t.val ≠ 0 → cfg0.fresh 6 t.val = false)
theorem before0_4 (c : Dev nD) (t : Fin cfg0.N) (ht : t.val ≠ 0) (d) : (dats m 0 c).before 4 t d = codesOf (X m c) := by
  rw [(dats m 0 c).before_out_traj 4 rfl (fun _ _ => rfl) (fun _ _ _ _ => (after0_4 m c _).trans (after0_4 m c _).symm) t.val t rfl d,
    fresh0_4 t ht, if_neg Bool.false_ne_true, after0_4]
theorem before0_5 (c : Dev nD) (t : Fin cfg0.N) (ht : t.val ≠ 0) (d) : (dats m 0 c).before 5 t d = scaleOf (X m c) := by
  rw [(dats m 0 c).before_out_traj 5 rfl (fun _ _ => rfl) (fun _ _ _ _ => (after0_5 m c _).trans (after0_5 m c _).symm) t.val t rfl d,
    fresh0_5 t ht, if_neg Bool.false_ne_true, after0_5]
theorem before0_6 (c : Dev nD) (t : Fin cfg0.N) (ht : t.val ≠ 0) (d) : (dats m 0 c).before 6 t d = zpOf (X m c) := by
  rw [(dats m 0 c).before_out_traj 6 rfl (fun _ _ => rfl) (fun _ _ _ _ => (after0_6 m c _).trans (after0_6 m c _).symm) t.val t rfl d,
    fresh0_6 t ht, if_neg Bool.false_ne_true, after0_6]

/-- What a later point hands back of an output it does not store: the buffer at the contents it found. -/
theorem leaves_of_before (c : Dev nD) (w : Fin cfg0.W) (t : Fin cfg0.N) (h : ∀ d, (dats m 0 c).before w t d = (dats m 0 c).after w t) :
    owns (c : Thread nD τ) ((cfg0.win w).stage (cfg0.slots t w)) fullShare ((dats m 0 c).after w t) ⊢ (dats m 0 c).leavesExact w t := by
  unfold Dat.leavesExact
  cases cfg0.idle w (cfg0.grid.coords t)
  · exact .rfl
  · cases (cfg0.win w).flush t
    · iintro H
      iexists ((dats m 0 c).after w t)
      rw [h]
      iexact H
    · exact .rfl

/-! At the first point they are stored (their windows are not idle there). -/

theorem live0_4 : ∀ t : Fin cfg0.N, t.val = 0 → cfg0.idle 4 (cfg0.grid.coords t) = false :=
  (by decide +kernel : ∀ t : Fin grid0.N, t.val = 0 → cfg0.idle 4 (grid0.coords t) = false)
theorem live0_5 : ∀ t : Fin cfg0.N, t.val = 0 → cfg0.idle 5 (cfg0.grid.coords t) = false :=
  (by decide +kernel : ∀ t : Fin grid0.N, t.val = 0 → cfg0.idle 5 (grid0.coords t) = false)
theorem live0_6 : ∀ t : Fin cfg0.N, t.val = 0 → cfg0.idle 6 (cfg0.grid.coords t) = false :=
  (by decide +kernel : ∀ t : Fin grid0.N, t.val = 0 → cfg0.idle 6 (grid0.coords t) = false)

/-- The invariant after the first point. -/
theorem Phi_pos (c : Dev nD) (t : Fin (cfg0.N + 1)) (h : t.val ≠ 0) : (dats m 0 c).Φ t = PhiK m c := by
  dsimp only [dats]; exact if_neg h

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (dats m 0 c).leavesExact 4 t
    ∗ (dats m 0 c).leavesExact 5 t
    ∗ (dats m 0 c).leavesExact 6 t)

set_option maxHeartbeats 1600000 in
/-- The body at any point: at the first one `kernelRun0_A` applies, at a later one `kernelRun0_B` to what the first left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = PhiK m c from Phi_pos m c _ (by simp)]
  unfold Dat.owesAt Pipeline.owesWithin
  rw [show (dats m 0 c).owed t.castSucc = 0 from rfl, show (dats m 0 c).owed t.succ = 0 from rfl]
  have hN : t.val < 7 := lt_of_lt_of_eq t.isLt (show cfg0.N = 7 from N_0)
  rw [after0_0, after0_1, after0_2, after0_3]
  by_cases h0 : t.val = 0
  · rw [show (dats m 0 c).Φ t.castSucc = Pipeline.ΦD osem0 spec0 H0 (V m) c from if_pos h0, PhiD0_eq]
    rw [show (dats m 0 c).leavesExact 4 t = owns (c : Thread nD τ) (ms0_4 t) fullShare ((dats m 0 c).after 4 t) from by
      unfold Dat.leavesExact; rw [live0_4 t h0], after0_4]
    rw [show (dats m 0 c).leavesExact 5 t = owns (c : Thread nD τ) (ms0_5 t) fullShare ((dats m 0 c).after 5 t) from by
      unfold Dat.leavesExact; rw [live0_5 t h0], after0_5]
    rw [show (dats m 0 c).leavesExact 6 t = owns (c : Thread nD τ) (ms0_6 t) fullShare ((dats m 0 c).after 6 t) from by
      unfold Dat.leavesExact; rw [live0_6 t h0], after0_6]
    unfold PhiK
    iintro ⟨⟨⟨HS0, HS1, HS2⟩, Hg, ⟨Hq0, Hq1⟩, Hh0⟩, ⟨%W, -, HW⟩, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ _ _ _ _ _ _ ((hcond0_0 t).mpr (by omega)) (iblk m c 0 t) (iblk m c 1 t) (iblk m c 2 t) (V m c main_v0)) W _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    isplitl [HS0]; · iexact HS0
    isplitl [HS1]; · iexact HS1
    isplitl [HS2]; · iexact HS2
    isplitl [Hq0]; · iexact Hq0
    isplitl [Hq1]; · iexact Hq1
    isplitl [Hh0]; · iexact Hh0
    isplitl [HW]; · iexact HW
    iintro ⟨H0, H1, H2, H3, H4, H5, H6, HS0, HS1, HS2, Hq0, Hq1, Hh0, ⟨%W', HW'⟩⟩
    isplitl [HS0 HS1 HS2 Hg Hq0 Hq1 Hh0]
    · isplitl [HS0 HS1 HS2]
      · isplitl [HS0]; · iexact HS0
        isplitl [HS1]; · iexact HS1
        iexact HS2
      isplitl [Hg]
      · iexact Hg
      isplitl [Hq0 Hq1]
      · isplitl [Hq0]; · iexact Hq0
        iexact Hq1
      iexact Hh0
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6
  · rw [show (dats m 0 c).Φ t.castSucc = PhiK m c from Phi_pos m c _ h0]
    simp only [before0_4 m c t h0, before0_5 m c t h0, before0_6 m c t h0]
    unfold PhiK
    iintro ⟨⟨⟨HS0, HS1, HS2⟩, Hg, ⟨Hq0, Hq1⟩, Hh0⟩, ⟨%W, -, HW⟩, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ _ _ _ _ _ _ (fun h => h0 (by have := (hcond0_0 t).mp h; omega)) (iblk m c 0 t) (iblk m c 1 t) (iblk m c 2 t) (codesOf (X m c)) (scaleOf (X m c)) (zpOf (X m c)) (qOf (X m c)) (xsOf (X m c)) (V m c main_v0)) W _)
    isplitl [H0]; · iexact H0
    isplitl [H1]; · iexact H1
    isplitl [H2]; · iexact H2
    isplitl [H3]; · iexists _; iexact H3
    isplitl [H4]; · iexact H4
    isplitl [H5]; · iexact H5
    isplitl [H6]; · iexact H6
    isplitl [HS0]; · iexact HS0
    isplitl [HS1]; · iexact HS1
    isplitl [HS2]; · iexact HS2
    isplitl [Hq0]; · iexact Hq0
    isplitl [Hq1]; · iexact Hq1
    isplitl [Hh0]; · iexact Hh0
    isplitl [HW]; · iexact HW
    iintro ⟨H0, H1, H2, H3, H4, H5, H6, HS0, HS1, HS2, Hq0, Hq1, Hh0, ⟨%W', HW'⟩⟩
    isplitl [HS0 HS1 HS2 Hg Hq0 Hq1 Hh0]
    · isplitl [HS0 HS1 HS2]
      · isplitl [HS0]; · iexact HS0
        isplitl [HS1]; · iexact HS1
        iexact HS2
      isplitl [Hg]
      · iexact Hg
      isplitl [Hq0 Hq1]
      · isplitl [Hq0]; · iexact Hq0
        iexact Hq1
      iexact Hh0
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iapply (leaves_of_before m c 4 t fun d => (before0_4 m c t h0 d).trans (after0_4 m c t).symm); rw [after0_4]; iexact H4
    isplitl [H5]; · iapply (leaves_of_before m c 5 t fun d => (before0_5 m c t h0 d).trans (after0_5 m c t).symm); rw [after0_5]; iexact H5
    iapply (leaves_of_before m c 6 t fun d => (before0_6 m c t h0 d).trans (after0_6 m c t).symm); rw [after0_6]; iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- What the last point leaves is again the invariant at unnamed scratch contents. -/
theorem Phi_last (c : Dev nD) : (dats m 0 c).Φ (Fin.last cfg0.N) ⊢ Pipeline.ΦD osem0 spec0 H0 (V m) c := by
  rw [show (dats m 0 c).Φ (Fin.last cfg0.N) = PhiK m c from Phi_pos m c _ (by rw [Fin.val_last, show cfg0.N = 7 from N_0]; decide), PhiD0_eq]
  unfold PhiK
  iintro ⟨⟨HS0, HS1, HS2⟩, Hg, Hq, Hh⟩
  isplitl [HS0 HS1 HS2]
  · isplitl [HS0]; · iexact HS0
    isplitl [HS1]; · iexists _; iexact HS1
    iexists _; iexact HS2
  isplitl [Hg]; · iexact Hg
  isplitl [Hq]; · iexact Hq
  iexact Hh

-- the library's run has implicit arguments found by unifying its conclusion with this one, which takes unfolding plain
-- definitions in a metavariable's type
set_option backward.isDefEq.respectTransparency.types false in
set_option maxHeartbeats 800000 in
/-- THE RUN: from any memory with zero counters every fair execution terminates; at its end every window's array holds what
    its write-backs left (`Dat.arrAt` of the proof data), every other buffer what the host lines after the region leave, and
    every semaphore is at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := sfx_but) (hfresh := sfx_fresh) (hkeep := sfx_keeps)
    (hmain := hmain m Variants.none) (hA := A_eq m) (hin := fun _ => .rfl) (hout := Phi_last m)

/-- The same without the counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- THE FRAME: the argument arrays end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelIdeal.Val

end
-- ==== Proof.Val.Generic.lean ====
/-
  The array operations the payloads use, read at one index, for shapes of any size.
-/
module

public import Idealize.ShloMosaic.Lib.Pointwise
public import Idealize.ShloMosaic.Lib.Pipeline.Value

@[expose] public section

set_option maxRecDepth 16384

noncomputable section

namespace Cert.KernelIdeal.Val

open Idealize.ShloMosaic Idealize.ShloMosaic.TcCoe

section

variable {n m : ℕ}

/-- A row's least element. -/
theorem redMin_apply (v : FVec Ideal ⟨2, ![n, m]⟩ .f32) (h : (⟨2, ![n, m]⟩ : Shape).Reduces [1] ⟨1, ![n]⟩)
    (hφ : FKind.Formats .f32) (b : BitVec 32) (hb : b = FKind.minimumf.neutral .f32 hφ) (r : Fin n) :
    multiReduction .minimumf [1] ⟨1, ![n]⟩ v b h hφ hb (ix1 r)
      = Finset.fold min (Ideal.ofBits .f32 b) (fun k => v (ix2 r k)) Finset.univ := by
  pointwise

/-- A row's greatest element. -/
theorem redMax_apply (v : FVec Ideal ⟨2, ![n, m]⟩ .f32) (h : (⟨2, ![n, m]⟩ : Shape).Reduces [1] ⟨1, ![n]⟩)
    (hφ : FKind.Formats .f32) (b : BitVec 32) (hb : b = FKind.maximumf.neutral .f32 hφ) (r : Fin n) :
    multiReduction .maximumf [1] ⟨1, ![n]⟩ v b h hφ hb (ix1 r)
      = Finset.fold max (Ideal.ofBits .f32 b) (fun k => v (ix2 r k)) Finset.univ := by
  pointwise

/-- A column's integer sum. -/
theorem redAddI_apply (v : IVec ⟨2, ![n, m]⟩ 32) (h : (⟨2, ![n, m]⟩ : Shape).Reduces [0] ⟨1, ![m]⟩)
    (b : BitVec 32) (hb : b = IKind.add.neutral) (l : Fin m) :
    multiReductionI .add [0] ⟨1, ![m]⟩ v b h hb (ix1 l)
      = Finset.fold IntOp.addi b (fun k => v (ix2 k l)) Finset.univ := by
  pointwise

variable {α : Type}

/-- A vector as a column. -/
theorem castCol_apply (v : (⟨1, ![n]⟩ : Shape).Idx → α) (h : (⟨1, ![n]⟩ : Shape).ShapeCasts ⟨2, ![n, 1]⟩) (r : Fin n) :
    shapeCast ⟨2, ![n, 1]⟩ v h (ix2 r 0) = v (ix1 r) := by
  refine shapeCast_apply v h _ _ ?_
  rw [Shape.rowMajor_val_one, Shape.rowMajor_val_two]
  show r.val = r.val * 1 + 0
  omega

/-- A vector as a row. -/
theorem castRow_apply (v : (⟨1, ![m]⟩ : Shape).Idx → α) (h : (⟨1, ![m]⟩ : Shape).ShapeCasts ⟨2, ![1, m]⟩) (l : Fin m) :
    shapeCast ⟨2, ![1, m]⟩ v h (ix2 0 l) = v (ix1 l) := by
  refine shapeCast_apply v h _ _ ?_
  rw [Shape.rowMajor_val_one, Shape.rowMajor_val_two]
  show l.val = 0 * m + l.val
  omega

/-- The leading unit axis dropped. -/
theorem castDrop_apply (v : (⟨3, ![1, n, m]⟩ : Shape).Idx → α) (h : (⟨3, ![1, n, m]⟩ : Shape).ShapeCasts ⟨2, ![n, m]⟩)
    (r : Fin n) (l : Fin m) : shapeCast ⟨2, ![n, m]⟩ v h (ix2 r l) = v (ix3 0 r l) := by
  refine shapeCast_apply v h _ _ ?_
  rw [Shape.rowMajor_val_three, Shape.rowMajor_val_two]
  show (0 * n + r.val) * m + l.val = r.val * m + l.val
  rw [Nat.zero_mul, Nat.zero_add]

/-- A column laid out as `n` rows of `m`. -/
theorem castLay_apply {N : ℕ} (v : (⟨2, ![N, 1]⟩ : Shape).Idx → α) (h : (⟨2, ![N, 1]⟩ : Shape).ShapeCasts ⟨2, ![n, m]⟩)
    (a : Fin n) (b : Fin m) (r : Fin N) (hr : r.val = a.val * m + b.val) :
    shapeCast ⟨2, ![n, m]⟩ v h (ix2 a b) = v (ix2 r 0) := by
  refine shapeCast_apply v h _ _ ?_
  rw [Shape.rowMajor_val_two, Shape.rowMajor_val_two]
  show r.val * 1 + 0 = a.val * m + b.val
  omega

/-- A column repeated along the rows. -/
theorem bcCol_apply (v : (⟨2, ![n, 1]⟩ : Shape).Idx → α) (h : (⟨2, ![n, 1]⟩ : Shape).Broadcasts ⟨2, ![n, m]⟩)
    (r : Fin n) (l : Fin m) : broadcastTo ⟨2, ![n, m]⟩ v h (ix2 r l) = v (ix2 r 0) := by
  refine broadcastTo_apply v h _ _ fun a => ?_
  match a with
  | ⟨0, _⟩ =>
    show r.val = if n = 1 then 0 else r.val
    split
    · have := r.isLt; omega
    · rfl
  | ⟨1, _⟩ => rfl

/-- A row repeated along the columns. -/
theorem bcRow_apply (v : (⟨2, ![1, m]⟩ : Shape).Idx → α) (h : (⟨2, ![1, m]⟩ : Shape).Broadcasts ⟨2, ![n, m]⟩)
    (r : Fin n) (l : Fin m) : broadcastTo ⟨2, ![n, m]⟩ v h (ix2 r l) = v (ix2 0 l) := by
  refine broadcastTo_apply v h _ _ fun a => ?_
  match a with
  | ⟨0, _⟩ => rfl
  | ⟨1, _⟩ =>
    show l.val = if m = 1 then 0 else l.val
    split
    · have := l.isLt; omega
    · rfl

end

/-- A product into zeros, at one index: the sum of products along the contracted axis. -/
theorem dot_apply {n k m : ℕ} {φ₁ φ₂ : FTy} (prec : Option ContractPrecision) (lhs : FVec Ideal ⟨2, ![n, k]⟩ φ₁) (rhs : FVec Ideal ⟨2, ![k, m]⟩ φ₂)
    (r : Fin n) (l : Fin m) :
    FloatOps.matmul (DotDims.plain n k m) prec lhs rhs (constant ⟨2, ![n, m]⟩ .f32 0x00000000#32) (ix2 r l)
      = ∑ i : Fin k, (lhs (ix2 r i) : EReal) * (rhs (ix2 i l) : EReal) := by
  refine (Ideal.matmul_apply₁_of (DotDims.plain n k m) (a := 1) rfl (K := k) rfl lhs rhs _ (ix2 r l) (fun i => ix2 r i) (fun i => ix2 i l) ?_ ?_).trans ?_
  · intro i; funext a
    match a with
    | ⟨0, _⟩ => rfl
    | ⟨1, _⟩ => rfl
  · intro i; funext a
    match a with
    | ⟨0, _⟩ => rfl
    | ⟨1, _⟩ => rfl
  · show Ideal.ofBits .f32 0x00000000#32 + _ = _
    have : Ideal.ofBits .f32 0x00000000#32 = (0 : EReal) := by simp [Ideal.ofBits, Ideal.ieee]
    rw [this, zero_add]

end Cert.KernelIdeal.Val
-- ==== Proof.Val.Scalar.lean ====
/-
  One row's quantisation as numbers: the scale, the zero point and the code of an element over the extended reals; that zero
  points and codes are integers between -128 and 127 whatever the row holds; and the identity between the product of the
  codes less their zero point and the integer correction of the product of the codes.
-/
module

public import Idealize.ShloMosaic.PureOps.Ideal.Laws
public import Idealize.ShloMosaic.Lib.Pointwise

@[expose] public section

set_option maxRecDepth 16384

noncomputable section

namespace Cert.KernelIdeal.Val

open Idealize.ShloMosaic

/-! ## The row functions -/

/-- The least element of a row and 0. -/
def rowMin (r : Fin 1536 → EReal) : EReal :=
  min (Finset.fold min (Ideal.ofBits .f32 0x7F800000#32) r Finset.univ) (Ideal.ofBits .f32 0x00000000#32)

/-- The greatest element of a row and 0. -/
def rowMax (r : Fin 1536 → EReal) : EReal :=
  max (Finset.fold max (Ideal.ofBits .f32 0xFF800000#32) r Finset.univ) (Ideal.ofBits .f32 0x00000000#32)

/-- The row's scale: its range over 255, and 1 for a row of zeros. -/
def rowScale (r : Fin 1536 → EReal) : EReal :=
  Scalar.select (Ideal.cmp .oeq (rowMax r) (rowMin r)) (Ideal.ofBits .f32 0x3F800000#32)
    (Ideal.div (rowMax r - rowMin r) (Ideal.ofBits .f32 0x437F0000#32))

/-- A value clipped to the codes' range. -/
def clip8 (e : EReal) : EReal := min ((127 : ℝ) : EReal) (max ((-128 : ℝ) : EReal) e)

/-- The row's zero point. -/
def rowZp (r : Fin 1536 → EReal) : EReal :=
  clip8 (Ideal.liftRound Ideal.roundHalfEven (Ideal.ofBits .f32 0xC3000000#32 - Ideal.div (rowMin r) (rowScale r)))

/-- The code of the element `x` of a row. -/
def rowCode (r : Fin 1536 → EReal) (x : EReal) : EReal :=
  clip8 (Ideal.liftRound Ideal.roundHalfEven (Ideal.div x (rowScale r)) + rowZp r)

/-! ## The constants -/

/-- The pattern of 127. -/
theorem c127 : Ideal.ofBits .f32 0x42FE0000#32 = ((127 : ℝ) : EReal) := by
  simp [Ideal.ofBits, Ideal.ieee, -EReal.coe_mul]; norm_num

/-- The pattern of -128. -/
theorem cm128 : Ideal.ofBits .f32 0xC3000000#32 = ((-128 : ℝ) : EReal) := by
  simp [Ideal.ofBits, Ideal.ieee, -EReal.coe_mul]; norm_num

/-- The clip by the two patterns. -/
theorem clip8_bits (e : EReal) :
    min (Ideal.ofBits .f32 0x42FE0000#32) (max (Ideal.ofBits .f32 0xC3000000#32) e) = clip8 e := by
  rw [c127, cm128]; rfl

/-- The clip by the two integers converted. -/
theorem clip8_ints (e : EReal) :
    min (((127#32).toInt : ℝ) : EReal) (max (((4294967168#32).toInt : ℝ) : EReal) e) = clip8 e := by
  have h1 : (127#32).toInt = 127 := by decide
  have h2 : (4294967168#32).toInt = -128 := by decide
  rw [h1, h2]; unfold clip8; norm_num

/-! ## Integers -/

/-- An extended real that is an integer or infinite. -/
def IsIntE (e : EReal) : Prop := e = ⊥ ∨ e = ⊤ ∨ ∃ z : ℤ, e = ((z : ℝ) : EReal)

/-- A rounded value is one. -/
theorem isIntE_round (f : ℝ → ℤ) (e : EReal) : IsIntE (Ideal.liftRound f e) := by
  induction e with
  | bot => exact .inl rfl
  | top => exact .inr (.inl rfl)
  | coe r => exact .inr (.inr ⟨f r, rfl⟩)

/-- It stays one when an integer is added. -/
theorem IsIntE.add {e : EReal} (h : IsIntE e) (z : ℤ) : IsIntE (e + ((z : ℝ) : EReal)) := by
  rcases h with rfl | rfl | ⟨y, rfl⟩
  · exact .inl (EReal.bot_add _)
  · exact .inr (.inl (EReal.top_add_coe _))
  · exact .inr (.inr ⟨y + z, by push_cast; rfl⟩)

/-- Clipped, it is an integer of the codes' range. -/
theorem clip8_int {e : EReal} (h : IsIntE e) : ∃ z : ℤ, -128 ≤ z ∧ z ≤ 127 ∧ clip8 e = ((z : ℝ) : EReal) := by
  rcases h with rfl | rfl | ⟨y, rfl⟩
  · refine ⟨-128, le_refl _, by norm_num, ?_⟩
    unfold clip8; rw [max_eq_left bot_le, min_eq_right (by exact_mod_cast (by norm_num : (-128 : ℝ) ≤ 127))]; norm_num
  · refine ⟨127, by norm_num, le_refl _, ?_⟩
    unfold clip8; rw [max_eq_right le_top, min_eq_left le_top]; norm_num
  · refine ⟨min 127 (max (-128) y), by omega, by omega, ?_⟩
    unfold clip8
    rw [← EReal.coe_strictMono.monotone.map_max, ← EReal.coe_strictMono.monotone.map_min]
    push_cast; rfl

/-- A row's zero point is an integer of the range. -/
theorem rowZp_int (r : Fin 1536 → EReal) : ∃ z : ℤ, -128 ≤ z ∧ z ≤ 127 ∧ rowZp r = ((z : ℝ) : EReal) :=
  clip8_int (isIntE_round _ _)

/-- A code is an integer of the range. -/
theorem rowCode_int (r : Fin 1536 → EReal) (x : EReal) : ∃ z : ℤ, -128 ≤ z ∧ z ≤ 127 ∧ rowCode r x = ((z : ℝ) : EReal) := by
  obtain ⟨z, _, _, hz⟩ := rowZp_int r
  unfold rowCode
  rw [hz]
  exact clip8_int ((isIntE_round _ _).add z)

/-- An integer within the width's range converts to itself. -/
theorem fptosi_int (w : ℕ) (z : ℤ) (h0 : -(2 ^ (w - 1) : ℕ) ≤ z) (h1 : z ≤ (2 ^ (w - 1) : ℕ) - 1) :
    Ideal.fptosi w ((z : ℝ) : EReal) = BitVec.ofInt w z := by
  unfold Ideal.fptosi
  rw [Ideal.toIntClamped_coe, Int.floor_intCast, Int.ceil_intCast, ite_self, min_eq_right h1, max_eq_right h0]

/-- A sum of reals, cast term by term. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The wrapping sum of integers is the wrapped sum. -/
theorem fold_addi {ι : Type} (s : Finset ι) (f : ι → BitVec 32) (g : ι → ℤ) (h : ∀ i, f i = BitVec.ofInt 32 (g i)) :
    Finset.fold IntOp.addi 0#32 f s = BitVec.ofInt 32 (∑ i ∈ s, g i) := by
  classical
  induction s using Finset.induction_on with
  | empty => rfl
  | insert a s ha ih =>
    rw [Finset.fold_insert ha, Finset.sum_insert ha, ih, h, BitVec.ofInt_add]; rfl

/-- Codes less their zero point times weights, summed over the reals, is the integer correction of the codes' product: the
    product converted to an integer, less the zero point times the weights' sum; nothing leaves 32 bits. -/
theorem corrected {c : Fin 1536 → ℤ} {z : ℤ} (w : Fin 1536 → BitVec 8) (hc : ∀ i, -128 ≤ c i ∧ c i ≤ 127) (hz : -128 ≤ z ∧ z ≤ 127) :
    ∑ i, (((c i : ℝ) : EReal) - ((z : ℝ) : EReal)) * (((w i).toInt : ℝ) : EReal)
      = (((Ideal.fptosi 32 (∑ i, ((c i : ℝ) : EReal) * (((w i).toInt : ℝ) : EReal))
          - BitVec.ofInt 32 z * Finset.fold IntOp.addi 0#32 (fun i => (w i).signExtend 32) Finset.univ).toInt : ℝ) : EReal) := by
  have hw : ∀ i, -128 ≤ (w i).toInt ∧ (w i).toInt ≤ 127 := fun i => by
    have h1 := BitVec.toInt_lt (x := w i); have h2 := BitVec.le_toInt (w i)
    norm_num at h1 h2; omega
  have e1 : ∑ i, ((c i : ℝ) : EReal) * (((w i).toInt : ℝ) : EReal) = (((∑ i, c i * (w i).toInt : ℤ) : ℝ) : EReal) := by
    rw [Int.cast_sum, ← sum_coe]
    refine Finset.sum_congr rfl fun i _ => ?_
    rw [Int.cast_mul, EReal.coe_mul]
  have e2 : ∑ i, (((c i : ℝ) : EReal) - ((z : ℝ) : EReal)) * (((w i).toInt : ℝ) : EReal)
      = (((∑ i, (c i - z) * (w i).toInt : ℤ) : ℝ) : EReal) := by
    rw [Int.cast_sum, ← sum_coe]
    refine Finset.sum_congr rfl fun i _ => ?_
    rw [Int.cast_mul, EReal.coe_mul, Int.cast_sub, EReal.coe_sub]
  have b1 : |∑ i, c i * (w i).toInt| ≤ 1536 * 16384 := by
    refine (Finset.abs_sum_le_sum_abs _ _).trans ((Finset.sum_le_sum fun i _ => (?_ : _ ≤ (16384 : ℤ))).trans ?_)
    · rw [abs_mul]
      exact (mul_le_mul (abs_le.mpr ⟨(hc i).1, (hc i).2.trans (by norm_num)⟩) (abs_le.mpr ⟨(hw i).1, (hw i).2.trans (by norm_num)⟩)
        (abs_nonneg _) (by norm_num : (0 : ℤ) ≤ 128)).trans (by norm_num)
    · simp
  have b2 : |∑ i, (c i - z) * (w i).toInt| ≤ 1536 * 32768 := by
    refine (Finset.abs_sum_le_sum_abs _ _).trans ((Finset.sum_le_sum fun i _ => (?_ : _ ≤ (32768 : ℤ))).trans ?_)
    · rw [abs_mul]
      have := hc i
      exact (mul_le_mul (abs_le.mpr ⟨by omega, by omega⟩ : |c i - z| ≤ 256) (abs_le.mpr ⟨(hw i).1, (hw i).2.trans (by norm_num)⟩ : |(w i).toInt| ≤ 128)
        (abs_nonneg _) (by norm_num : (0 : ℤ) ≤ 256)).trans (by norm_num)
    · simp
  rw [abs_le] at b1 b2
  have e3 : Finset.fold IntOp.addi 0#32 (fun i => (w i).signExtend 32) Finset.univ = BitVec.ofInt 32 (∑ i, (w i).toInt) :=
    fold_addi _ _ _ fun i => rfl
  have e4 : ∑ i, (c i - z) * (w i).toInt = (∑ i, c i * (w i).toInt) - z * ∑ i, (w i).toInt := by
    rw [Finset.mul_sum, ← Finset.sum_sub_distrib]
    exact Finset.sum_congr rfl fun i _ => sub_mul _ _ _
  have e5 : ∀ a b : ℤ, BitVec.ofInt 32 a - BitVec.ofInt 32 b = BitVec.ofInt 32 (a - b) := fun a b => by
    rw [BitVec.sub_eq_add_neg, ← BitVec.ofInt_neg, ← BitVec.ofInt_add, sub_eq_add_neg]
  rw [e2, e1, fptosi_int 32 _ (by norm_num; omega) (by norm_num; omega), e3, ← BitVec.ofInt_mul, e5, ← e4,
    BitVec.toInt_ofInt_eq_self (by norm_num) (by norm_num; omega) (by norm_num; omega)]

end Cert.KernelIdeal.Val
-- ==== Proof.Val.Row.lean ====
/-
  The kernel's payloads on a slab, at a row and an element, in the row functions' terms.
-/
module

public import proofs.«01_k».proof.Proof.Gen.KernelIdeal.Skeleton
public import proofs.«01_k».proof.Proof.Val.Generic
public import proofs.«01_k».proof.Proof.Val.Scalar

@[expose] public section

set_option maxRecDepth 16384

noncomputable section

namespace Cert.KernelIdeal.Val

open Cert.KernelIdeal Cert.KernelIdeal.Gen
open Idealize.ShloMosaic Idealize.ShloMosaic.TcCoe

section Scalars

variable {F : FTy → Type} [FloatOps F]

/-- The scale from the greatest and the least element. -/
def scaleS (mx mn : F .f32) : F .f32 :=
  Scalar.select (FloatOps.cmpf .oeq mx mn) (FloatOps.ofBits .f32 0x3F800000#32)
    (FloatOps.divf (FloatOps.subf mx mn) (FloatOps.ofBits .f32 0x437F0000#32))

/-- The zero point from the least element and the scale. -/
def zpS (mn sc : F .f32) : F .f32 :=
  FloatOps.minimumf (FloatOps.ofBits .f32 0x42FE0000#32) (FloatOps.maximumf (FloatOps.ofBits .f32 0xC3000000#32)
    (FloatOps.roundeven (FloatOps.subf (FloatOps.ofBits .f32 0xC3000000#32) (FloatOps.divf mn sc))))

/-- The code from an element, the scale and the zero point. -/
def codeS (e sc zp : F .f32) : F .f32 :=
  FloatOps.minimumf (FloatOps.ofBits .f32 0x42FE0000#32) (FloatOps.maximumf (FloatOps.ofBits .f32 0xC3000000#32)
    (FloatOps.addf (FloatOps.roundeven (FloatOps.divf e sc)) zp))

variable (x : Vec F S1x256x1536 .f32)

theorem pay30_read (j : S256x1.Idx) : k0_pay30 x j = FloatOps.minimumf
    (shapeCast S256x1 (multiReduction .minimumf [1] S256 (k0_pay29 x) 0x7F800000#32 reduces_S256x1536_S256 (.inl rfl) rfl)
      shapeCasts_S256_S256x1 j) (FloatOps.ofBits .f32 0x00000000#32) := rfl

theorem pay31_read (j : S256x1.Idx) : k0_pay31 x j = scaleS (FloatOps.maximumf
    (shapeCast S256x1 (multiReduction .maximumf [1] S256 (k0_pay29 x) 0xFF800000#32 reduces_S256x1536_S256 (.inl rfl) rfl)
      shapeCasts_S256_S256x1 j) (FloatOps.ofBits .f32 0x00000000#32)) (k0_pay30 x j) := rfl

theorem pay32_read (j : S256x1.Idx) : k0_pay32 x j = zpS (k0_pay30 x j) (k0_pay31 x j) := rfl

theorem pay33_read (j : S256x1536.Idx) : k0_pay33 x j = codeS (k0_pay29 x j)
    (broadcastTo S256x1536 (k0_pay31 x) broadcasts_S256x1_S256x1536 j)
    (broadcastTo S256x1536 (k0_pay32 x) broadcasts_S256x1_S256x1536 j) := rfl

theorem pay34_read (j : S256x1536.Idx) : k0_pay34 x j = FloatOps.truncf .bf16 bitsLt_bf16_f32 (FloatOps.subf (k0_pay33 x j)
    (broadcastTo S256x1536 (k0_pay32 x) broadcasts_S256x1_S256x1536 j)) := by
  unfold k0_pay34
  simp only [shapeCast_self]
  rfl

theorem pay35_read (v : FVec F S256x1536 .f32) (j : S256x1536.Idx) : k0_pay35 v j = FloatOps.fptosi 8 (v j) := rfl

theorem pay36_read (v : FVec F S256x1 .f32) : k0_pay36 v = broadcastTo S256x128 v broadcasts_S256x1_S256x128 := by
  unfold k0_pay36
  simp only [shapeCast_self]

theorem pay37_read (v : FVec F S256x1 .f32) : k0_pay37 v = shapeCast S2x128 v shapeCasts_S256x1_S2x128 := rfl

theorem pay38_read (v : FVec F S256x1 .f32) : k0_pay38 v = shapeCast S2x128 (fun j => FloatOps.fptosi 32 (v j)) shapeCasts_S256x1_S2x128 := rfl

theorem pay2_read (q : Vec F S2048x1536 .bf16) (w : Vec F S1536x1280 .i8) (s : Vec F S2048x1 .f32)
    (ws b : Vec F S1x1280 .f32) (j : S2048x1280.Idx) : k0_pay2 q w s ws b j
      = FloatOps.addf (FloatOps.mulf
          (matmul dot_S2048x1536_S1536x1280_S2048x1280_1_0_0_1_n_n none q (sitofp (F := F) .bf16 w) (constant S2048x1280 .f32 0x00000000#32) j)
          (FloatOps.mulf (broadcastTo S2048x1280 s broadcasts_S2048x1_S2048x1280 j) (broadcastTo S2048x1280 ws broadcasts_S1x1280_S2048x1280 j)))
        (broadcastTo S2048x1280 b broadcasts_S1x1280_S2048x1280 j) := by
  unfold k0_pay2
  simp only [shapeCast_self]
  rfl

end Scalars

theorem scaleS_ideal (mx mn : EReal) : scaleS (F := Ideal) mx mn
    = Scalar.select (Ideal.cmp .oeq mx mn) (Ideal.ofBits .f32 0x3F800000#32) (Ideal.div (mx - mn) (Ideal.ofBits .f32 0x437F0000#32)) := rfl

theorem zpS_ideal (mn sc : EReal) : zpS (F := Ideal) mn sc
    = clip8 (Ideal.liftRound Ideal.roundHalfEven (Ideal.ofBits .f32 0xC3000000#32 - Ideal.div mn sc)) := by
  rw [← clip8_bits]; rfl

theorem codeS_ideal (e sc zp : EReal) : codeS (F := Ideal) e sc zp
    = clip8 (Ideal.liftRound Ideal.roundHalfEven (Ideal.div e sc) + zp) := by
  rw [← clip8_bits]; rfl

variable (x : Vec Ideal S1x256x1536 .f32)

/-- A slab's row. -/
abbrev slabRow (r : Fin 256) : Fin 1536 → EReal := fun k => x (ix3 0 r k)

/-- The slab without its leading axis. -/
theorem pay29_apply (r : Fin 256) (k : Fin 1536) : k0_pay29 x (ix2 r k) = x (ix3 0 r k) :=
  castDrop_apply x _ r k

/-- The least element of a slab's row. -/
theorem pay30_apply (r : Fin 256) : k0_pay30 x (ix2 r 0) = rowMin (slabRow x r) := by
  rw [pay30_read, castCol_apply]
  refine congrArg (fun e : EReal => min e (Ideal.ofBits .f32 0x00000000#32)) ((redMin_apply _ _ _ _ _ r).trans ?_)
  exact Finset.fold_congr fun k _ => pay29_apply x r k

/-- The scale of a slab's row. -/
theorem pay31_apply (r : Fin 256) : k0_pay31 x (ix2 r 0) = rowScale (slabRow x r) := by
  rw [pay31_read, pay30_apply, castCol_apply]
  have h := (redMax_apply (k0_pay29 x) reduces_S256x1536_S256 (.inl rfl) _ rfl r).trans
    (Finset.fold_congr fun k _ => pay29_apply x r k)
  exact (congrArg (fun e : EReal => scaleS (F := Ideal) (max e (Ideal.ofBits .f32 0x00000000#32)) (rowMin (slabRow x r))) h).trans
    (scaleS_ideal _ _)

/-- The zero point of a slab's row. -/
theorem pay32_apply (r : Fin 256) : k0_pay32 x (ix2 r 0) = rowZp (slabRow x r) := by
  rw [pay32_read, pay30_apply, pay31_apply]
  exact zpS_ideal _ _

/-- The code of a slab's element. -/
theorem pay33_apply (r : Fin 256) (k : Fin 1536) : k0_pay33 x (ix2 r k) = rowCode (slabRow x r) (x (ix3 0 r k)) := by
  rw [pay33_read, bcCol_apply, bcCol_apply, pay31_apply, pay32_apply, pay29_apply]
  exact codeS_ideal _ _ _

/-- The code less the zero point. -/
theorem pay34_apply (r : Fin 256) (k : Fin 1536) :
    k0_pay34 x (ix2 r k) = rowCode (slabRow x r) (x (ix3 0 r k)) - rowZp (slabRow x r) := by
  rw [pay34_read, bcCol_apply, pay32_apply, pay33_apply]
  rfl

/-- The code stored as an 8-bit integer. -/
theorem pay35_apply (r : Fin 256) (k : Fin 1536) :
    k0_pay35 (k0_pay33 x) (ix2 r k) = Ideal.fptosi 8 (rowCode (slabRow x r) (x (ix3 0 r k))) := by
  rw [pay35_read, pay33_apply]; rfl

/-- The scale, repeated along 128 lanes. -/
theorem pay36_apply (r : Fin 256) (l : Fin 128) : k0_pay36 (k0_pay31 x) (ix2 r l) = rowScale (slabRow x r) := by
  rw [pay36_read, bcCol_apply, pay31_apply]

/-- The scales laid out as two rows of 128. -/
theorem pay37_apply (a : Fin 2) (b : Fin 128) (r : Fin 256) (hr : r.val = a.val * 128 + b.val) :
    k0_pay37 (k0_pay31 x) (ix2 a b) = rowScale (slabRow x r) := by
  rw [pay37_read, castLay_apply _ _ a b r hr, pay31_apply]

/-- The zero points laid out as two rows of 128. -/
theorem pay38_apply (a : Fin 2) (b : Fin 128) (r : Fin 256) (hr : r.val = a.val * 128 + b.val) :
    k0_pay38 (k0_pay32 x) (ix2 a b) = Ideal.fptosi 32 (rowZp (slabRow x r)) := by
  rw [pay38_read, castLay_apply _ _ a b r hr, pay32_apply]; rfl

/-- One element of a block of the result. -/
theorem pay2_apply (q : Vec Ideal S2048x1536 .bf16) (w : Vec Ideal S1536x1280 .i8) (s : Vec Ideal S2048x1 .f32)
    (ws b : Vec Ideal S1x1280 .f32) (r : Fin 2048) (l : Fin 1280) :
    k0_pay2 q w s ws b (ix2 r l)
      = (∑ i : Fin 1536, (q (ix2 r i) : EReal) * (((w (ix2 i l)).toInt : ℝ) : EReal)) * ((s (ix2 r 0) : EReal) * (ws (ix2 0 l) : EReal))
        + (b (ix2 0 l) : EReal) := by
  rw [pay2_read, bcCol_apply, bcRow_apply, bcRow_apply]
  exact congrArg (fun e : EReal => e * ((s (ix2 r 0) : EReal) * (ws (ix2 0 l) : EReal)) + (b (ix2 0 l) : EReal))
    (dot_apply (φ₁ := .bf16) (φ₂ := .bf16) none q (sitofp (F := Ideal) .bf16 w) r l)

end Cert.KernelIdeal.Val
-- ==== Proof.Val.RefRow.lean ====
/-
  The reference's payloads at a row and an element, in the row functions' terms; and its product, corrected by the zero
  points in 32-bit integers, as the sum of the codes less their zero point times the weights.
-/
module

public import proofs.«01_k».proof.Proof.Gen.ReferenceIdeal.Skeleton
public import proofs.«01_k».proof.Proof.Val.Row

@[expose] public section

set_option maxRecDepth 16384

noncomputable section

namespace Cert.ReferenceIdeal.Val

open Cert.ReferenceIdeal Cert.ReferenceIdeal.Gen
open Cert.KernelIdeal.Val
open Idealize.ShloMosaic Idealize.ShloMosaic.TcCoe

section Reads

variable {F : FTy → Type} [FloatOps F]

/-- The clip to the codes' range, the ends converted from integers. -/
def clipS (e : F .f32) : F .f32 :=
  FloatOps.minimumf (Scalar.sitofp .f32 127#32) (FloatOps.maximumf (Scalar.sitofp .f32 4294967168#32) e)

variable (x : Vec F S2048x1536 .f32)

theorem pay2_eq : k0_pay2 x = x := by
  unfold k0_pay2
  simp only [shapeCast_self]

theorem pay3_read (j : S2048x1.Idx) : k0_pay3 x j = FloatOps.minimumf
    (shapeCast S2048x1 (multiReduction .minimumf [1] S2048 x 0x7F800000#32 reduces_S2048x1536_S2048 (.inl rfl) rfl)
      shapeCasts_S2048_S2048x1 j) (FloatOps.ofBits .f32 0x00000000#32) := by
  unfold k0_pay3
  rw [pay2_eq]
  rfl

theorem pay4_read (j : S2048x1.Idx) : k0_pay4 x j = scaleS (FloatOps.maximumf
    (shapeCast S2048x1 (multiReduction .maximumf [1] S2048 x 0xFF800000#32 reduces_S2048x1536_S2048 (.inl rfl) rfl)
      shapeCasts_S2048_S2048x1 j) (FloatOps.ofBits .f32 0x00000000#32)) (k0_pay3 x j) := by
  unfold k0_pay4
  rw [pay2_eq]
  rfl

theorem pay5_read (j : S2048x1.Idx) : k0_pay5 x j = FloatOps.fptosi 32 (clipS (FloatOps.roundeven
    (FloatOps.subf (FloatOps.ofBits .f32 0xC3000000#32) (FloatOps.divf (k0_pay3 x j) (k0_pay4 x j))))) := rfl

theorem pay6_read (j : S2048x1536.Idx) : k0_pay6 x j = FloatOps.fptosi 8 (clipS (FloatOps.addf (FloatOps.roundeven
    (FloatOps.divf (x j) (broadcastTo S2048x1536 (k0_pay4 x) broadcasts_S2048x1_S2048x1536 j)))
    (broadcastTo S2048x1536 (fun i => FloatOps.sitofp .f32 (k0_pay5 x i)) broadcasts_S2048x1_S2048x1536 j))) := by
  unfold k0_pay6
  rw [pay2_eq]
  rfl

theorem pay7_read (w : Vec F S1536x8960 .i8) : k0_pay7 x w
    = matmul dot_S2048x1536_S1536x8960_S2048x8960_1_0_0_1_n_n none (sitofp (F := F) .f32 (k0_pay6 x)) (sitofp (F := F) .f32 w)
        (constant S2048x8960 .f32 0x00000000#32) := rfl

theorem pay1_read (w : Vec F S1536x8960 .i8) (s : FVec F S2048x1 .f32) (z : IVec S2048x1 32) (p : FVec F S2048x8960 .f32)
    (ws b : Vec F S1x8960 .f32) (j : S2048x8960.Idx) : k0_pay1 w s z p ws b j
      = FloatOps.addf (FloatOps.mulf
          (FloatOps.sitofp .f32 (FloatOps.fptosi 32 (p j) - broadcastTo S2048x8960 z broadcasts_S2048x1_S2048x8960 j
            * broadcastTo S2048x8960 (shapeCast S1x8960 (multiReductionI .add [0] S8960 (extsi 32 w natLt_8_32) 0#32 reduces_S1536x8960_S8960 rfl)
                shapeCasts_S8960_S1x8960) broadcasts_S1x8960_S2048x8960 j))
          (FloatOps.mulf (broadcastTo S2048x8960 s broadcasts_S2048x1_S2048x8960 j) (broadcastTo S2048x8960 ws broadcasts_S1x8960_S2048x8960 j)))
        (broadcastTo S2048x8960 b broadcasts_S1x8960_S2048x8960 j) := by
  unfold k0_pay1
  simp only [shapeCast_self]
  rfl

end Reads

theorem clipS_ideal (e : EReal) : clipS (F := Ideal) e = clip8 e := (clip8_ints e)

/-- An integer converted. -/
theorem sitofp_ideal {n : ℕ} (b : BitVec n) : FloatOps.sitofp (F := Ideal) .f32 b = ((b.toInt : ℝ) : EReal) := rfl

/-- An integer of the codes' range is what converting it to `n` bits and back leaves. -/
theorem back {e : EReal} {n : ℕ} (hn : 8 ≤ n) (h : ∃ z : ℤ, -128 ≤ z ∧ z ≤ 127 ∧ e = ((z : ℝ) : EReal)) :
    (((Ideal.fptosi n e).toInt : ℝ) : EReal) = e := by
  obtain ⟨z, h0, h1, rfl⟩ := h
  have hp : (128 : ℤ) ≤ ((2 ^ (n - 1) : ℕ) : ℤ) := by
    have : 2 ^ 7 ≤ 2 ^ (n - 1) := Nat.pow_le_pow_right (by norm_num) (by omega)
    exact_mod_cast this
  rw [fptosi_int n z (by omega) (by omega), BitVec.toInt_ofInt_eq_self (by omega) (by push_cast at hp ⊢; omega) (by push_cast at hp ⊢; omega)]

variable (x : Vec Ideal S2048x1536 .f32)

/-- A row of the activations. -/
abbrev row (r : Fin 2048) : Fin 1536 → EReal := fun k => x (ix2 r k)

/-- The least element of a row. -/
theorem pay3_apply (r : Fin 2048) : k0_pay3 x (ix2 r 0) = rowMin (row x r) := by
  rw [pay3_read, castCol_apply]
  exact congrArg (fun e : EReal => min e (Ideal.ofBits .f32 0x00000000#32)) (redMin_apply _ _ _ _ _ r)

/-- The scale of a row. -/
theorem pay4_apply (r : Fin 2048) : k0_pay4 x (ix2 r 0) = rowScale (row x r) := by
  rw [pay4_read, pay3_apply, castCol_apply]
  exact (congrArg (fun e : EReal => scaleS (F := Ideal) (max e (Ideal.ofBits .f32 0x00000000#32)) (rowMin (row x r)))
    (redMax_apply x reduces_S2048x1536_S2048 (.inl rfl) _ rfl r)).trans (scaleS_ideal _ _)

/-- The zero point of a row. -/
theorem pay5_apply (r : Fin 2048) : k0_pay5 x (ix2 r 0) = Ideal.fptosi 32 (rowZp (row x r)) := by
  rw [pay5_read, pay3_apply, pay4_apply]
  exact congrArg (Ideal.fptosi 32) (clipS_ideal _)

/-- The code of an element. -/
theorem pay6_apply (r : Fin 2048) (k : Fin 1536) :
    k0_pay6 x (ix2 r k) = Ideal.fptosi 8 (rowCode (row x r) (x (ix2 r k))) := by
  rw [pay6_read, bcCol_apply, bcCol_apply, pay4_apply, pay5_apply, sitofp_ideal, back (by norm_num) (rowZp_int _)]
  exact congrArg (Ideal.fptosi 8) (clipS_ideal _)

/-- The product of the codes with the weights. -/
theorem pay7_apply (w : Vec Ideal S1536x8960 .i8) (r : Fin 2048) (l : Fin 8960) :
    k0_pay7 x w (ix2 r l) = ∑ i : Fin 1536, rowCode (row x r) (x (ix2 r i)) * (((w (ix2 i l)).toInt : ℝ) : EReal) := by
  rw [pay7_read]
  refine (dot_apply (φ₁ := .f32) (φ₂ := .f32) none (sitofp (F := Ideal) .f32 (k0_pay6 x)) (sitofp (F := Ideal) .f32 w) r l).trans ?_
  refine Finset.sum_congr rfl fun i _ => congrArg (fun e : EReal => e * (((w (ix2 i l)).toInt : ℝ) : EReal)) ?_
  refine (congrArg (fun b : BitVec 8 => ((b.toInt : ℝ) : EReal)) (pay6_apply x r i)).trans ?_
  exact back (by norm_num) (rowCode_int _ _)

/-- One element of the result. -/
theorem y_apply (w : Vec Ideal S1536x8960 .i8) (ws b : Vec Ideal S1x8960 .f32) (r : Fin 2048) (l : Fin 8960) :
    k0_pay1 w (k0_pay4 x) (k0_pay5 x) (k0_pay7 x w) ws b (ix2 r l)
      = (∑ i : Fin 1536, (rowCode (row x r) (x (ix2 r i)) - rowZp (row x r)) * (((w (ix2 i l)).toInt : ℝ) : EReal))
          * (rowScale (row x r) * (ws (ix2 0 l) : EReal)) + (b (ix2 0 l) : EReal) := by
  rw [pay1_read, bcCol_apply, bcCol_apply, bcRow_apply, bcRow_apply, bcRow_apply, castRow_apply, pay7_apply, pay5_apply, pay4_apply,
    sitofp_ideal]
  refine congrArg (fun e : EReal => e * (rowScale (row x r) * (ws (ix2 0 l) : EReal)) + (b (ix2 0 l) : EReal)) ?_
  have hs := redAddI_apply (extsi 32 w natLt_8_32) reduces_S1536x8960_S8960 0#32 rfl l
  obtain ⟨z, hz0, hz1, hz⟩ := rowZp_int (row x r)
  choose c hc0 hc1 hc using fun i => rowCode_int (row x r) (x (ix2 r i))
  have hm := corrected (c := c) (z := z) (fun i => w (ix2 i l)) (fun i => ⟨hc0 i, hc1 i⟩) ⟨hz0, hz1⟩
  simp only [hc, hz]
  rw [fptosi_int 32 z (by norm_num; omega) (by norm_num; omega)]
  refine Eq.trans ?_ hm.symm
  exact congrArg (fun s : BitVec 32 => (((Ideal.fptosi 32 (∑ i, ((c i : ℝ) : EReal) * (((w (ix2 i l)).toInt : ℝ) : EReal))
    - BitVec.ofInt 32 z * s).toInt : ℝ) : EReal)) hs

end Cert.ReferenceIdeal.Val
-- ==== Proof.Val.Whole.lean ====
/-
  The five whole arrays the first grid point leaves, element by element: the slabs' results, stacked, are the row
  functions of the whole array's rows.
-/
module

public import proofs.«01_k».proof.Proof.Val.Slabs
public import proofs.«01_k».proof.Proof.Val.RefRow

@[expose] public section

set_option maxRecDepth 16384

noncomputable section

namespace Cert.KernelIdeal.Val

open Cert.KernelIdeal Cert.KernelIdeal.Gen
open Cert.ReferenceIdeal.Val (row)
open Idealize.ShloMosaic Idealize.ShloMosaic.TcCoe

/-- The row of the whole array that row `r` of slab `k` is. -/
theorem slab_row (X : Vec Ideal S2048x1536 .f32) (k : ℕ) (r : Fin 256) (R : Fin 2048) (h : R.val = 256 * k + r.val) :
    slabRow (slab X k) r = row X R := by
  funext i
  show X _ = X _
  congr 1
  funext a
  match a with
  | ⟨0, _⟩ => exact Fin.ext (by show (256 * k + r.val) % 2048 = R.val; rw [← h, Nat.mod_eq_of_lt R.isLt])
  | ⟨1, _⟩ => rfl

/-- Its elements. -/
theorem slab_elem (X : Vec Ideal S2048x1536 .f32) (k : ℕ) (r : Fin 256) (R : Fin 2048) (h : R.val = 256 * k + r.val)
    (i : Fin 1536) : slab X k (ix3 0 r i) = X (ix2 R i) := congrFun (slab_row X k r R h) i

/-- A row's place in its slab. -/
theorem row_split (R : Fin 2048) : R.val = 256 * (R.val / 256) + R.val % 256 := (Nat.div_add_mod _ _).symm

/-- A stacked array at row `R`. -/
theorem stack_apply {α : Type} {H C n : ℕ} (hH : 0 < H) (P : ℕ → (⟨2, ![H, C]⟩ : Shape).Idx → α) (R : Fin n) (l : Fin C) :
    stack n hH P (ix2 R l) = P (R.val / H) (ix2 ⟨R.val % H, Nat.mod_lt _ hH⟩ l) := rfl

variable (X : Vec Ideal S2048x1536 .f32)

/-- The shifted codes: each element's code less its row's zero point. -/
theorem qOf_apply (R : Fin 2048) (i : Fin 1536) : qOf X (ix2 R i) = rowCode (row X R) (X (ix2 R i)) - rowZp (row X R) := by
  have h := row_split R
  unfold qOf
  refine (stack_apply _ _ _ _).trans ?_
  refine (pay34_apply (slab X (R.val / 256)) ⟨R.val % 256, Nat.mod_lt _ (by decide)⟩ i).trans ?_
  rw [slab_row X _ _ R h, slab_elem X _ _ R h]

/-- The codes. -/
theorem codesOf_apply (R : Fin 2048) (i : Fin 1536) :
    codesOf X (ix2 R i) = Ideal.fptosi 8 (rowCode (row X R) (X (ix2 R i))) := by
  have h := row_split R
  unfold codesOf
  refine (stack_apply _ _ _ _).trans ?_
  refine (pay35_apply (slab X (R.val / 256)) ⟨R.val % 256, Nat.mod_lt _ (by decide)⟩ i).trans ?_
  rw [slab_row X _ _ R h, slab_elem X _ _ R h]

/-- The scales, along the lanes. -/
theorem xsOf_apply (R : Fin 2048) (l : Fin 128) : xsOf X (ix2 R l) = rowScale (row X R) := by
  have h := row_split R
  unfold xsOf
  refine (stack_apply _ _ _ _).trans ?_
  refine (pay36_apply (slab X (R.val / 256)) ⟨R.val % 256, Nat.mod_lt _ (by decide)⟩ l).trans ?_
  rw [slab_row X _ _ R h]

/-- Row `128 a + b` is row `128 (a % 2) + b` of slab `a / 2`. -/
theorem lay_split (a : Fin 16) (b : Fin 128) (R : Fin 2048) (h : R.val = a.val * 128 + b.val) :
    R.val = 256 * (a.val / 2) + (a.val % 2 * 128 + b.val) := by omega

/-- The scales, laid out 16 × 128. -/
theorem scaleOf_apply (a : Fin 16) (b : Fin 128) (R : Fin 2048) (h : R.val = a.val * 128 + b.val) :
    scaleOf X (ix2 a b) = rowScale (row X R) := by
  have hs := lay_split a b R h
  unfold scaleOf
  refine (stack_apply _ _ _ _).trans ?_
  refine (pay37_apply (slab X (a.val / 2)) ⟨a.val % 2, Nat.mod_lt _ (by decide)⟩ b ⟨a.val % 2 * 128 + b.val, by omega⟩ rfl).trans ?_
  rw [slab_row X _ _ R hs]

/-- The zero points, laid out 16 × 128. -/
theorem zpOf_apply (a : Fin 16) (b : Fin 128) (R : Fin 2048) (h : R.val = a.val * 128 + b.val) :
    zpOf X (ix2 a b) = Ideal.fptosi 32 (rowZp (row X R)) := by
  have hs := lay_split a b R h
  unfold zpOf
  refine (stack_apply _ _ _ _).trans ?_
  refine (pay38_apply (slab X (a.val / 2)) ⟨a.val % 2, Nat.mod_lt _ (by decide)⟩ b ⟨a.val % 2 * 128 + b.val, by omega⟩ rfl).trans ?_
  rw [slab_row X _ _ R hs]

/-! ## Against the reference's payloads -/

/-- The codes are the reference's. -/
theorem codesOf_eq : codesOf X = Cert.ReferenceIdeal.Gen.k0_pay6 X := by
  funext j
  obtain ⟨R, i, rfl⟩ : ∃ (R : Fin 2048) (i : Fin 1536), j = ix2 R i := ⟨j 0, j 1, ValueIdx.eq_ix2 j⟩
  exact (codesOf_apply X R i).trans (Cert.ReferenceIdeal.Val.pay6_apply X R i).symm

/-- The scales are the reference's, laid out 16 × 128. -/
theorem scaleOf_eq (h : Cert.ReferenceIdeal.S2048x1.ShapeCasts Cert.ReferenceIdeal.S16x128) :
    scaleOf X = shapeCast Cert.ReferenceIdeal.S16x128 (Cert.ReferenceIdeal.Gen.k0_pay4 X) h := by
  funext j
  obtain ⟨a, b, rfl⟩ : ∃ (a : Fin 16) (b : Fin 128), j = ix2 a b := ⟨j 0, j 1, ValueIdx.eq_ix2 j⟩
  refine (scaleOf_apply X a b ⟨a.val * 128 + b.val, by omega⟩ rfl).trans (Eq.symm ?_)
  exact (castLay_apply _ h a b ⟨a.val * 128 + b.val, by omega⟩ rfl).trans (Cert.ReferenceIdeal.Val.pay4_apply X _)

/-- The zero points are the reference's, laid out 16 × 128. -/
theorem zpOf_eq (h : Cert.ReferenceIdeal.S2048x1.ShapeCasts Cert.ReferenceIdeal.S16x128) :
    zpOf X = shapeCast Cert.ReferenceIdeal.S16x128 (Cert.ReferenceIdeal.Gen.k0_pay5 X) h := by
  funext j
  obtain ⟨a, b, rfl⟩ : ∃ (a : Fin 16) (b : Fin 128), j = ix2 a b := ⟨j 0, j 1, ValueIdx.eq_ix2 j⟩
  refine (zpOf_apply X a b ⟨a.val * 128 + b.val, by omega⟩ rfl).trans (Eq.symm ?_)
  exact (castLay_apply _ h a b ⟨a.val * 128 + b.val, by omega⟩ rfl).trans (Cert.ReferenceIdeal.Val.pay5_apply X _)

/-- The reference's result array, as a function of the activations' rows, the weights, their scales and the bias. -/
def yRef (w : Vec Ideal S1536x8960 .i8) (ws b : Vec Ideal S1x8960 .f32) : Vec Ideal S2048x8960 .f32 :=
  Cert.ReferenceIdeal.Gen.k0_pay1 w (Cert.ReferenceIdeal.Gen.k0_pay4 X) (Cert.ReferenceIdeal.Gen.k0_pay5 X)
    (Cert.ReferenceIdeal.Gen.k0_pay7 X w) ws b

/-- Column `l` of a block of the kernel's result is column `L` of the reference's, when the block's weights, scales and
    bias at `l` are the whole arrays' at `L`. -/
theorem yOf_apply (w : Vec Ideal S1536x8960 .i8) (ws b : Vec Ideal S1x8960 .f32)
    (x0 : Vec Ideal S1536x1280 .i8) (x1 x2 : Vec Ideal S1x1280 .f32) (R : Fin 2048) (l : Fin 1280) (L : Fin 8960)
    (h0 : ∀ i : Fin 1536, x0 (ix2 i l) = w (ix2 i L)) (h1 : x1 (ix2 0 l) = ws (ix2 0 L)) (h2 : x2 (ix2 0 l) = b (ix2 0 L)) :
    yOf (qOf X) (xsOf X) x0 x1 x2 (ix2 R l) = yRef X w ws b (ix2 R L) := by
  unfold yOf yRef
  rw [Cert.ReferenceIdeal.Val.y_apply]
  refine (pay2_apply _ _ _ _ _ R l).trans ?_
  have hs : View.ld (Val := Elt Ideal) (e' := .f32) (xsOf X) (Rect.unit ![0, 0] S2048x1.size inb_S2048x128_S2048x1_0_0) (ix2 R 0)
      = rowScale (row X R) := by
    refine Eq.trans ?_ (xsOf_apply X R 0)
    show xsOf X _ = _
    congr 1
    funext a
    match a with
    | ⟨0, _⟩ => exact Fin.ext (by show 0 + 1 * R.val = R.val; omega)
    | ⟨1, _⟩ => rfl
  rw [hs, h1, h2]
  refine congrArg (fun e : EReal => e * (rowScale (row X R) * (ws (ix2 0 L) : EReal)) + (b (ix2 0 L) : EReal)) ?_
  exact Finset.sum_congr rfl fun i _ => by rw [qOf_apply, h0 i]

end Cert.KernelIdeal.Val

end
-- ==== Proof.Val.FinalK.lean ====
/-
  What the kernel's four result buffers hold after the run, at the ideal instance.
-/
module

public import proofs.«01_k».proof.Proof.Val.Frame
public import proofs.«01_k».proof.Proof.Val.Whole
public import Idealize.ShloMosaic.Lib.Pipeline.ValueKit

@[expose] public section

set_option maxRecDepth 16384

noncomputable section

namespace Cert.KernelIdeal.Val

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The windows' index maps: the weights, their scales, the bias and the result go by blocks of columns, the rest is whole. -/
theorem idx : ∀ t : Fin cfg0.N, win0_0.index t = ![0, t.val] ∧ win0_1.index t = ![0, t.val] ∧ win0_2.index t = ![0, t.val]
    ∧ win0_3.index t = ![0, t.val] ∧ win0_4.index t = ![0, 0] ∧ win0_5.index t = ![0, 0] ∧ win0_6.index t = ![0, 0] :=
  (by decide +kernel : ∀ t : Fin grid0.N, _)

/-- The codes after the run. -/
theorem final4 (c : Dev nD) : (dats m 0 c).arrAt 4 (cfgs 0).N = codesOf (X m c) := by
  refine (dats m 0 c).arrAt_eq_of_after_last 4 t0_6 (by decide +kernel) _ fun j => ?_
  blk_simp
  rw [after0_4]
  blk_ext [idx t0_6]

/-- The scales after the run. -/
theorem final5 (c : Dev nD) : (dats m 0 c).arrAt 5 (cfgs 0).N = scaleOf (X m c) := by
  refine (dats m 0 c).arrAt_eq_of_after_last 5 t0_6 (by decide +kernel) _ fun j => ?_
  blk_simp
  rw [after0_5]
  blk_ext [idx t0_6]

/-- The zero points after the run. -/
theorem final6 (c : Dev nD) : (dats m 0 c).arrAt 6 (cfgs 0).N = zpOf (X m c) := by
  refine (dats m 0 c).arrAt_eq_of_after_last 6 t0_6 (by decide +kernel) _ fun j => ?_
  blk_simp
  rw [after0_6]
  blk_ext [idx t0_6]

/-- The result after the run: the reference's, of the buffers' contents at the region's entry. -/
theorem final3 (c : Dev nD) : (dats m 0 c).arrAt 3 (cfgs 0).N
    = yRef (X m c) (V m c main_arg1) (V m c main_v1) (V m c main_v2) := by
  refine (dats m 0 c).arrAt_eq_of_covers 3 _ (by decide +kernel) fun t _ y => ?_
  blk_simp
  rw [after0_3]
  obtain ⟨R, l, rfl⟩ : ∃ (R : Fin 2048) (l : Fin 1280), y = ix2 R l := ⟨y 0, y 1, ValueIdx.eq_ix2 y⟩
  have ht : t.val < 7 := t.isLt
  have e : ((cfg0.win 3).blk t).view.emb (ix2 R l) = ix2 R (⟨t.val * 1280 + l.val, by omega⟩ : Fin 8960) := by
    blk_ext [idx t]
  rw [e]
  refine yOf_apply (X m c) _ _ _ _ _ _ R l _ ?_ ?_ ?_
  · intro i
    blk_ext [iblk, idx t]
  · blk_ext [iblk, idx t]
  · blk_ext [iblk, idx t]

end Cert.KernelIdeal.Val

end
-- ==== Proof.Val.RunK.lean ====
/-
  The kernel's run with its four results as the reference's arrays of its arguments.
-/
module

public import proofs.«01_k».proof.Proof.Val.FinalK
public import proofs.«01_k».proof.Proof.Gen.ReferenceIdeal

@[expose] public section

set_option maxRecDepth 16384

noncomputable section

namespace Cert.KernelIdeal.Val

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## The reshapes after the region -/

/-- The result, reshaped. -/
theorem tail4 (c : Dev nD) : Pipeline.afterTail₀ cfgs (dats m) 0 (V0 m) [hostOps1] c main_v4
    = shapeCast S16x128x8960 ((dats m 0 c).arrAt 3 (cfgs 0).N) shapeCasts_S2048x8960_S16x128x8960 := by
  unfold Pipeline.afterTail₀
  simp only [List.flatten_cons, List.flatten_nil, List.append_nil]
  simp only [StableHlo.after_cons, StableHlo.after_nil]
  after_results_simp
  exact congrArg (fun v => shapeCast S16x128x8960 v shapeCasts_S2048x8960_S16x128x8960)
    (Pipeline.withArrays_arr spec0 winFacts0.arr_inj c (V0 m c) (fun w => (dats m 0 c).arrAt w (cfgs 0).N) 3)

/-- The codes, reshaped. -/
theorem tail5 (c : Dev nD) : Pipeline.afterTail₀ cfgs (dats m) 0 (V0 m) [hostOps1] c main_v5
    = shapeCast S16x128x1536 ((dats m 0 c).arrAt 4 (cfgs 0).N) shapeCasts_S2048x1536_S16x128x1536 := by
  unfold Pipeline.afterTail₀
  simp only [List.flatten_cons, List.flatten_nil, List.append_nil]
  simp only [StableHlo.after_cons, StableHlo.after_nil]
  after_results_simp
  exact congrArg (fun v => shapeCast S16x128x1536 v shapeCasts_S2048x1536_S16x128x1536)
    (Pipeline.withArrays_arr spec0 winFacts0.arr_inj c (V0 m c) (fun w => (dats m 0 c).arrAt w (cfgs 0).N) 4)

/-! ## The operands the region reads -/

/-- The activations, one row per token; the weights' scales and the bias, as rows. -/
theorem V_v0 (c : Dev nD) : V m c main_v0 = shapeCast S2048x1536 (m ((c : Thread nD τ).loc main_arg0)) shapeCasts_S16x128x1536_S2048x1536 := by
  entry_read
  rfl
theorem V_v1 (c : Dev nD) : V m c main_v1 = shapeCast S1x8960 (m ((c : Thread nD τ).loc main_arg2)) shapeCasts_S8960_S1x8960 := by
  entry_read
  rfl
theorem V_v2 (c : Dev nD) : V m c main_v2 = shapeCast S1x8960 (m ((c : Thread nD τ).loc main_arg3)) shapeCasts_S8960_S1x8960 := by
  entry_read
  rfl

/-! ## The run -/

/-- The kernel's run: its four results as arrays of its arguments, the reference's payloads; the arguments unchanged. -/
theorem run_values : θ_run defs (onTc (τ := τ) (main (F := Ideal))) ⟨m, fun _ => 0, ρ⟩ (fun r => ∀ c : Dev nD,
      r.2.mem ((c.tc : Thread nD τ).loc main_v4) = shapeCast S16x128x8960 (yRef (X m c) (V m c main_arg1) (V m c main_v1)
        (V m c main_v2)) shapeCasts_S2048x8960_S16x128x8960
      ∧ r.2.mem ((c.tc : Thread nD τ).loc main_v5) = shapeCast S16x128x1536 (Cert.ReferenceIdeal.Gen.k0_pay6 (X m c)) shapeCasts_S2048x1536_S16x128x1536
      ∧ r.2.mem ((c.tc : Thread nD τ).loc main_v3_2) = shapeCast Cert.ReferenceIdeal.S16x128 (Cert.ReferenceIdeal.Gen.k0_pay4 (X m c)) Cert.ReferenceIdeal.Gen.shapeCasts_S2048x1_S16x128
      ∧ r.2.mem ((c.tc : Thread nD τ).loc main_v3_3) = shapeCast Cert.ReferenceIdeal.S16x128 (Cert.ReferenceIdeal.Gen.k0_pay5 (X m c)) Cert.ReferenceIdeal.Gen.shapeCasts_S2048x1_S16x128
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
    ((h.1 c).2 main_v4 (Pipeline.mem_restRefs_of main_v4 (by decide) (by decide))).trans ((tail4 m c).trans
      (congrArg (fun v => shapeCast S16x128x8960 v shapeCasts_S2048x8960_S16x128x8960) (final3 m c))),
    ((h.1 c).2 main_v5 (Pipeline.mem_restRefs_of main_v5 (by decide) (by decide))).trans ((tail5 m c).trans
      (congrArg (fun v => shapeCast S16x128x1536 v shapeCasts_S2048x1536_S16x128x1536) ((final4 m c).trans (codesOf_eq (X m c))))),
    ((h.1 c).1 5).trans ((final5 m c).trans (scaleOf_eq (X m c) _)),
    ((h.1 c).1 6).trans ((final6 m c).trans (zpOf_eq (X m c) _)),
    h.2.1 c⟩) (θ_run_and (run_main m ρ) (frame m ρ))

end Cert.KernelIdeal.Val

end
-- ==== Proof.Val.FinalR.lean ====
/-
  What the reference's four result buffers hold after the run, at the ideal instance.
-/
module

public import proofs.«01_k».proof.Proof.Gen.ReferenceIdeal.Frame
public import Idealize.ShloMosaic.Lib.Pipeline.ValueKit
public import Idealize.ShloMosaic.Lib.Claim

@[expose] public section

set_option maxRecDepth 16384

noncomputable section

namespace Cert.ReferenceIdeal.Val

open Cert.ReferenceIdeal Cert.ReferenceIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The index maps: every block is its whole array. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] :=
  (by decide +kernel : ∀ t : Fin grid0.N, _)

/-- The input blocks are the arrays. -/
theorem blk0 (c : Dev nD) : iblk m c 0 t0_0 = V m c main_v0 := by blk_ext! [iblk, idx t0_0]
theorem blk1 (c : Dev nD) : iblk m c 1 t0_0 = V m c main_arg1 := by blk_ext! [iblk, idx t0_0]
theorem blk2 (c : Dev nD) : iblk m c 2 t0_0 = V m c main_v1 := by blk_ext! [iblk, idx t0_0]
theorem blk3 (c : Dev nD) : iblk m c 3 t0_0 = V m c main_v2 := by blk_ext! [iblk, idx t0_0]

/-- The scales' load is the whole block's. -/
theorem pay8_eq (x0 : Vec F S2048x1536 .f32) (x1 : Vec F S1536x8960 .i8) (x2 x3 : Vec F S1x8960 .f32) :
    k0_pay8 x0 x1 x2 x3 = k0_pay4 x0 := by
  unfold k0_pay8 r0_0
  exact congrArg k0_pay4 (View.ld_unit_lit _ _ (by decide))

/-- The zero points' load is the whole block's. -/
theorem pay9_eq (x0 : Vec F S2048x1536 .f32) (x1 : Vec F S1536x8960 .i8) (x2 x3 : Vec F S1x8960 .f32) :
    k0_pay9 x0 x1 x2 x3 = k0_pay5 x0 := by
  unfold k0_pay9 r0_0
  exact congrArg k0_pay5 (View.ld_unit_lit _ _ (by decide))

/-- The codes. -/
theorem final5 (c : Dev nD) : (dats m 0 c).arrAt 5 (cfgs 0).N = k0_pay6 (V m c main_v0) := by
  refine (dats m 0 c).arrAt_eq_of_after_last 5 t0_0 (by decide +kernel) _ fun j => ?_
  blk_simp
  rw [after0_5]
  frame_out
  rw [blk0]

/-- The scales. -/
theorem final6 (c : Dev nD) : (dats m 0 c).arrAt 6 (cfgs 0).N = k0_pay4 (V m c main_v0) := by
  refine (dats m 0 c).arrAt_eq_of_after_last 6 t0_0 (by decide +kernel) _ fun j => ?_
  blk_simp
  rw [after0_6]
  frame_out
  rw [blk0, pay8_eq]

/-- The zero points. -/
theorem final7 (c : Dev nD) : (dats m 0 c).arrAt 7 (cfgs 0).N = k0_pay5 (V m c main_v0) := by
  refine (dats m 0 c).arrAt_eq_of_after_last 7 t0_0 (by decide +kernel) _ fun j => ?_
  blk_simp
  rw [after0_7]
  frame_out
  rw [blk0, pay9_eq]

/-- The result. -/
theorem final4 (c : Dev nD) : (dats m 0 c).arrAt 4 (cfgs 0).N = k0_pay1 (V m c main_arg1) (k0_pay4 (V m c main_v0))
    (k0_pay5 (V m c main_v0)) (k0_pay7 (V m c main_v0) (V m c main_arg1)) (V m c main_v1) (V m c main_v2) := by
  refine (dats m 0 c).arrAt_eq_of_after_last 4 t0_0 (by decide +kernel) _ fun j => ?_
  blk_simp
  rw [after0_4]
  frame_out
  rw [blk0, blk1, blk2, blk3, pay8_eq, pay9_eq]

/-! ## The reshapes after the region -/

/-- The result, reshaped. -/
theorem tail4 (c : Dev nD) : Pipeline.afterTail₀ cfgs (dats m) 0 (V0 m) [hostOps1] c main_v4
    = shapeCast S16x128x8960 ((dats m 0 c).arrAt 4 (cfgs 0).N) shapeCasts_S2048x8960_S16x128x8960 := by
  unfold Pipeline.afterTail₀
  simp only [List.flatten_cons, List.flatten_nil, List.append_nil]
  simp only [StableHlo.after_cons, StableHlo.after_nil]
  after_results_simp
  exact congrArg (fun v => shapeCast S16x128x8960 v shapeCasts_S2048x8960_S16x128x8960)
    (Pipeline.withArrays_arr spec0 winFacts0.arr_inj c (V0 m c) (fun w => (dats m 0 c).arrAt w (cfgs 0).N) 4)

/-- The codes, reshaped. -/
theorem tail5 (c : Dev nD) : Pipeline.afterTail₀ cfgs (dats m) 0 (V0 m) [hostOps1] c main_v5
    = shapeCast S16x128x1536 ((dats m 0 c).arrAt 5 (cfgs 0).N) shapeCasts_S2048x1536_S16x128x1536 := by
  unfold Pipeline.afterTail₀
  simp only [List.flatten_cons, List.flatten_nil, List.append_nil]
  simp only [StableHlo.after_cons, StableHlo.after_nil]
  after_results_simp
  exact congrArg (fun v => shapeCast S16x128x1536 v shapeCasts_S2048x1536_S16x128x1536)
    (Pipeline.withArrays_arr spec0 winFacts0.arr_inj c (V0 m c) (fun w => (dats m 0 c).arrAt w (cfgs 0).N) 5)

/-- The scales, reshaped. -/
theorem tail6 (c : Dev nD) : Pipeline.afterTail₀ cfgs (dats m) 0 (V0 m) [hostOps1] c main_v6
    = shapeCast S16x128 ((dats m 0 c).arrAt 6 (cfgs 0).N) shapeCasts_S2048x1_S16x128 := by
  unfold Pipeline.afterTail₀
  simp only [List.flatten_cons, List.flatten_nil, List.append_nil]
  simp only [StableHlo.after_cons, StableHlo.after_nil]
  after_results_simp
  exact congrArg (fun v => shapeCast S16x128 v shapeCasts_S2048x1_S16x128)
    (Pipeline.withArrays_arr spec0 winFacts0.arr_inj c (V0 m c) (fun w => (dats m 0 c).arrAt w (cfgs 0).N) 6)

/-- The zero points, reshaped. -/
theorem tail7 (c : Dev nD) : Pipeline.afterTail₀ cfgs (dats m) 0 (V0 m) [hostOps1] c main_v7
    = shapeCast S16x128 ((dats m 0 c).arrAt 7 (cfgs 0).N) shapeCasts_S2048x1_S16x128 := by
  unfold Pipeline.afterTail₀
  simp only [List.flatten_cons, List.flatten_nil, List.append_nil]
  simp only [StableHlo.after_cons, StableHlo.after_nil]
  after_results_simp
  exact congrArg (fun v => shapeCast S16x128 v shapeCasts_S2048x1_S16x128)
    (Pipeline.withArrays_arr spec0 winFacts0.arr_inj c (V0 m c) (fun w => (dats m 0 c).arrAt w (cfgs 0).N) 7)

/-! ## The operands the region reads -/

/-- The activations, one row per token; the weights' scales and the bias, as rows. -/
theorem V_v0 (c : Dev nD) : V m c main_v0 = shapeCast S2048x1536 (m ((c : Thread nD τ).loc main_arg0)) shapeCasts_S16x128x1536_S2048x1536 := by
  entry_read
  rfl
theorem V_v1 (c : Dev nD) : V m c main_v1 = shapeCast S1x8960 (m ((c : Thread nD τ).loc main_arg2)) shapeCasts_S8960_S1x8960 := by
  entry_read
  rfl
theorem V_v2 (c : Dev nD) : V m c main_v2 = shapeCast S1x8960 (m ((c : Thread nD τ).loc main_arg3)) shapeCasts_S8960_S1x8960 := by
  entry_read
  rfl

/-! ## The run -/

/-- The reference's run: its four results as arrays of its arguments, and the arguments unchanged. -/
theorem run_values : θ_run defs (onTc (τ := τ) (main (F := F))) ⟨m, fun _ => 0, ρ⟩ (fun r => ∀ c : Dev nD,
      r.2.mem ((c.tc : Thread nD τ).loc main_v4) = shapeCast S16x128x8960 (k0_pay1 (V m c main_arg1) (k0_pay4 (V m c main_v0))
        (k0_pay5 (V m c main_v0)) (k0_pay7 (V m c main_v0) (V m c main_arg1)) (V m c main_v1) (V m c main_v2)) shapeCasts_S2048x8960_S16x128x8960
      ∧ r.2.mem ((c.tc : Thread nD τ).loc main_v5) = shapeCast S16x128x1536 (k0_pay6 (V m c main_v0)) shapeCasts_S2048x1536_S16x128x1536
      ∧ r.2.mem ((c.tc : Thread nD τ).loc main_v6) = shapeCast S16x128 (k0_pay4 (V m c main_v0)) shapeCasts_S2048x1_S16x128
      ∧ r.2.mem ((c.tc : Thread nD τ).loc main_v7) = shapeCast S16x128 (k0_pay5 (V m c main_v0)) shapeCasts_S2048x1_S16x128
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
    ((h.1 c).2 main_v4 (Pipeline.mem_restRefs_of main_v4 (by decide) (by decide))).trans ((tail4 m c).trans
      (congrArg (fun v => shapeCast S16x128x8960 v shapeCasts_S2048x8960_S16x128x8960) (final4 m c))),
    ((h.1 c).2 main_v5 (Pipeline.mem_restRefs_of main_v5 (by decide) (by decide))).trans ((tail5 m c).trans
      (congrArg (fun v => shapeCast S16x128x1536 v shapeCasts_S2048x1536_S16x128x1536) (final5 m c))),
    ((h.1 c).2 main_v6 (Pipeline.mem_restRefs_of main_v6 (by decide) (by decide))).trans ((tail6 m c).trans
      (congrArg (fun v => shapeCast S16x128 v shapeCasts_S2048x1_S16x128) (final6 m c))),
    ((h.1 c).2 main_v7 (Pipeline.mem_restRefs_of main_v7 (by decide) (by decide))).trans ((tail7 m c).trans
      (congrArg (fun v => shapeCast S16x128 v shapeCasts_S2048x1_S16x128) (final7 m c))),
    h.2 c⟩) (θ_run_and (run_main m ρ) (unchanged m ρ))

end Cert.ReferenceIdeal.Val

end
-- ==== Proof.Val.Algebraic.lean ====
/-
  The algebraic claim: from memories agreeing on the arguments, the kernel and the reference end with equal results.
-/
module

public import proofs.«01_k».proof.Defs
public import proofs.«01_k».proof.Proof.Val.RunK
public import proofs.«01_k».proof.Proof.Val.FinalR

@[expose] public section

set_option maxRecDepth 16384

noncomputable section

namespace Cert.Proof

open Idealize.ShloMosaic Idealize.ShloMosaic.TcCoe Idealize.SL.Sem

/-- Read at the ideal instance, the kernel's four results are the reference's, and the arguments end unchanged in both. -/
theorem algebraic : Cert.algebraic_KernelIdeal_ReferenceIdeal (hKernelIdeal := Cert.KernelIdeal.Gen.facts)
    (hReferenceIdeal := Cert.ReferenceIdeal.Gen.facts) := by
  intro m g m' g' _ hagree
  have e0 : ∀ c, Cert.ReferenceIdeal.Gen.V m' c Cert.ReferenceIdeal.main_v0 = Cert.KernelIdeal.Val.X m c := fun c =>
    (Cert.ReferenceIdeal.Val.V_v0 m' c).trans ((congrArg (fun v => shapeCast Cert.ReferenceIdeal.S2048x1536 v
      Cert.ReferenceIdeal.Gen.shapeCasts_S16x128x1536_S2048x1536) (hagree c).1).trans (Cert.KernelIdeal.Val.V_v0 m c).symm)
  have e1 : ∀ c, Cert.ReferenceIdeal.Gen.V m' c Cert.ReferenceIdeal.main_arg1 = Cert.KernelIdeal.Val.V m c Cert.KernelIdeal.main_arg1 := fun c =>
    (Cert.ReferenceIdeal.Gen.V_main_arg1 m' c).trans ((hagree c).2.1.trans (Cert.KernelIdeal.Val.V_main_arg1 m c).symm)
  have e2 : ∀ c, Cert.ReferenceIdeal.Gen.V m' c Cert.ReferenceIdeal.main_v1 = Cert.KernelIdeal.Val.V m c Cert.KernelIdeal.main_v1 := fun c =>
    (Cert.ReferenceIdeal.Val.V_v1 m' c).trans ((congrArg (fun v => shapeCast Cert.ReferenceIdeal.S1x8960 v
      Cert.ReferenceIdeal.Gen.shapeCasts_S8960_S1x8960) (hagree c).2.2.1).trans (Cert.KernelIdeal.Val.V_v1 m c).symm)
  have e3 : ∀ c, Cert.ReferenceIdeal.Gen.V m' c Cert.ReferenceIdeal.main_v2 = Cert.KernelIdeal.Val.V m c Cert.KernelIdeal.main_v2 := fun c =>
    (Cert.ReferenceIdeal.Val.V_v2 m' c).trans ((congrArg (fun v => shapeCast Cert.ReferenceIdeal.S1x8960 v
      Cert.ReferenceIdeal.Gen.shapeCasts_S8960_S1x8960) (hagree c).2.2.2).trans (Cert.KernelIdeal.Val.V_v2 m c).symm)
  have hR := Cert.ReferenceIdeal.Val.run_values m' g'
  simp only [e0, e1, e2, e3] at hR
  exact ⟨_, _, _, _, Cert.KernelIdeal.Val.run_values m g, hR⟩

end Cert.Proof

end
-- ==== Proof.Val.Twin.lean ====
/-
  The kernel's frame.  The kernel and its ideal program are one text, printed twice: the frame, proved of that text at
  every reading of the floats, is the kernel's at machine floats.
-/
module

public import proofs.«01_k».proof.Proof.Gen.Kernel
public import proofs.«01_k».proof.Proof.Val.Frame

@[expose] public section

set_option maxRecDepth 16384

noncomputable section

namespace Cert.Kernel.Val

open Cert.Kernel Cert.Kernel.Gen
open Idealize.ShloMosaic Idealize.ShloMosaic.TcCoe Idealize.SL.Sem

variable {F : FTy → Type} [FloatOps F]

set_option backward.isDefEq.respectTransparency false in
/-- The body's first part is one text in both programs. -/
theorem part1_eq : Cert.Kernel.k0_part1 (F := F) = Cert.KernelIdeal.k0_part1 (F := F) := rfl
set_option backward.isDefEq.respectTransparency false in
/-- So is its second part, -/
theorem part2_eq : Cert.Kernel.k0_part2 (F := F) = Cert.KernelIdeal.k0_part2 (F := F) := rfl
set_option backward.isDefEq.respectTransparency false in
/-- and the whole body. -/
theorem body_eq : Cert.Kernel.cc0_hybrid_fc (F := F) = Cert.KernelIdeal.cc0_hybrid_fc (F := F) := rfl

set_option backward.isDefEq.respectTransparency false in
/-- The table of bodies is the same. -/
theorem defs₀_eq : Cert.Kernel.defs₀ (F := F) = Cert.KernelIdeal.defs₀ (F := F) := by
  refine congrArg Defs.onTc ?_
  funext l a
  match l, a with
  | 0, (t, s) => rfl

set_option backward.isDefEq.respectTransparency false in
/-- So is the table with the pipeline. -/
theorem defs_eq : Cert.Kernel.defs (F := F) = Cert.KernelIdeal.defs (F := F) :=
  congrArg (Pipeline.defs Cert.KernelIdeal.pcfgs) defs₀_eq

variable (m : (ℓ : Loc nD τ sig) → Buf (Elt F) ℓ) (ρ : Dev nD → PrngReg)

set_option backward.isDefEq.respectTransparency false in
/-- THE FRAME: the argument arrays end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  rw [defs_eq]
  exact Cert.KernelIdeal.Val.frame m ρ

end Cert.Kernel.Val

end
-- ==== Proof.lean ====
/-
  The certificate.  The three frame claims, the idealization's (it rewrote no operation) and the algebraic claim: read over
  the extended reals, the kernel's four results — the product, the codes, the scales and the zero points — equal the
  reference's, from any arguments.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Val.Algebraic
public import proofs.«01_k».proof.Proof.Val.Twin
public import Idealize.ShloMosaic.Adequacy
public import Idealize.ShloMosaic.Init

@[expose] public section

noncomputable section

namespace Cert.Proof

open Idealize.ShloMosaic Idealize.SL.Sem Cert.Kernel

/-- Everything the certificate claims, proved. -/
theorem claim : Cert.Claim := ⟨Cert.Kernel.Gen.facts, Cert.KernelIdeal.Gen.facts, Cert.ReferenceIdeal.Gen.facts,
  fun m ρ _ => Cert.Kernel.Val.frame m ρ, fun m ρ _ => Cert.KernelIdeal.Val.frame m ρ,
  fun m ρ _ => Cert.ReferenceIdeal.Gen.frame m ρ, trivial, algebraic⟩

end Cert.Proof

end
